-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S3072x768 : Shape := ⟨2, ![3072, 768]⟩
abbrev S1536x4 : Shape := ⟨2, ![1536, 4]⟩
abbrev S1536 : Shape := ⟨1, ![1536]⟩
abbrev S80x1536 : Shape := ⟨2, ![80, 1536]⟩
abbrev S1536x48 : Shape := ⟨2, ![1536, 48]⟩
abbrev S1536x16 : Shape := ⟨2, ![1536, 16]⟩
abbrev S768x1536 : Shape := ⟨2, ![768, 1536]⟩
abbrev S768x3072 : Shape := ⟨2, ![768, 3072]⟩
abbrev S4x1536 : Shape := ⟨2, ![4, 1536]⟩
abbrev S1x1536 : Shape := ⟨2, ![1, 1536]⟩
abbrev S1536x80 : Shape := ⟨2, ![1536, 80]⟩
abbrev S_ : Shape := ⟨0, ![]⟩
abbrev S1536x384 : Shape := ⟨2, ![1536, 384]⟩
abbrev S1 : Shape := ⟨1, ![1]⟩
abbrev S128x1536 : Shape := ⟨2, ![128, 1536]⟩
abbrev S48x1536 : Shape := ⟨2, ![48, 1536]⟩
abbrev S16x1536 : Shape := ⟨2, ![16, 1536]⟩
abbrev S1536x768 : Shape := ⟨2, ![1536, 768]⟩
abbrev S1x256x768 : Shape := ⟨3, ![1, 256, 768]⟩
abbrev S8x1536 : Shape := ⟨2, ![8, 1536]⟩
abbrev S256x16x1536 : Shape := ⟨3, ![256, 16, 1536]⟩
abbrev S256x768 : Shape := ⟨2, ![256, 768]⟩
abbrev S256x3072 : Shape := ⟨2, ![256, 3072]⟩
abbrev S256x1536 : Shape := ⟨2, ![256, 1536]⟩
abbrev S3x1536 : Shape := ⟨2, ![3, 1536]⟩
abbrev S259x1536 : Shape := ⟨2, ![259, 1536]⟩
abbrev S256x384 : Shape := ⟨2, ![256, 384]⟩
abbrev S256x128 : Shape := ⟨2, ![256, 128]⟩
abbrev S256x16 : Shape := ⟨2, ![256, 16]⟩
abbrev S256x1x1536 : Shape := ⟨3, ![256, 1, 1536]⟩
abbrev S1x16x1536 : Shape := ⟨3, ![1, 16, 1536]⟩
abbrev S256x16x1 : Shape := ⟨3, ![256, 16, 1]⟩
abbrev S64x1024 : Shape := ⟨2, ![64, 1024]⟩
abbrev S64x16x1536 : Shape := ⟨3, ![64, 16, 1536]⟩
abbrev S1024x1536 : Shape := ⟨2, ![1024, 1536]⟩
abbrev S64x16 : Shape := ⟨2, ![64, 16]⟩
abbrev S64x1536 : Shape := ⟨2, ![64, 1536]⟩

abbrev nBuf : Space → Nat
  | .hbm => 43
  | .vmem => 18
  | .smem => 0
  | _ => 0

abbrev bufTy : (tb : Table) → Fin (tcTables nBuf tb) → BufTy
  | .hbm, ⟨0, _⟩ => ⟨S2x2048x768, .f32⟩
  | .hbm, ⟨1, _⟩ => ⟨S3072x768, .f32⟩
  | .hbm, ⟨2, _⟩ => ⟨S1536x4, .f32⟩
  | .hbm, ⟨3, _⟩ => ⟨S1536, .f32⟩
  | .hbm, ⟨4, _⟩ => ⟨S80x1536, .f32⟩
  | .hbm, ⟨5, _⟩ => ⟨S1536x48, .f32⟩
  | .hbm, ⟨6, _⟩ => ⟨S1536, .f32⟩
  | .hbm, ⟨7, _⟩ => ⟨S1536x16, .f32⟩
  | .hbm, ⟨8, _⟩ => ⟨S1536, .f32⟩
  | .hbm, ⟨9, _⟩ => ⟨S768x1536, .f32⟩
  | .hbm, ⟨10, _⟩ => ⟨S768x3072, .f32⟩
  | .hbm, ⟨11, _⟩ => ⟨S768x3072, .bf16⟩
  | .hbm, ⟨12, _⟩ => ⟨S4x1536, .f32⟩
  | .hbm, ⟨13, _⟩ => ⟨S1x1536, .f32⟩
  | .hbm, ⟨14, _⟩ => ⟨S1536x80, .f32⟩
  | .hbm, ⟨15, _⟩ => ⟨S_, .f32⟩
  | .hbm, ⟨16, _⟩ => ⟨S1536x384, .f32⟩
  | .hbm, ⟨17, _⟩ => ⟨S1536x48, .f32⟩
  | .hbm, ⟨18, _⟩ => ⟨S_, .i32⟩
  | .hbm, ⟨19, _⟩ => ⟨S1, .i32⟩
  | .hbm, ⟨20, _⟩ => ⟨S1536x384, .f32⟩
  | .hbm, ⟨21, _⟩ => ⟨S1536x16, .f32⟩
  | .hbm, ⟨22, _⟩ => ⟨S_, .i32⟩
  | .hbm, ⟨23, _⟩ => ⟨S1, .i32⟩
  | .hbm, ⟨24, _⟩ => ⟨S1536x384, .f32⟩
  | .hbm, ⟨25, _⟩ => ⟨S1536x16, .f32⟩
  | .hbm, ⟨26, _⟩ => ⟨S_, .i32⟩
  | .hbm, ⟨27, _⟩ => ⟨S1, .i32⟩
  | .hbm, ⟨28, _⟩ => ⟨S1536x384, .f32⟩
  | .hbm, ⟨29, _⟩ => ⟨S1536x384, .bf16⟩
  | .hbm, ⟨30, _⟩ => ⟨S_, .f32⟩
  | .hbm, ⟨31, _⟩ => ⟨S128x1536, .f32⟩
  | .hbm, ⟨32, _⟩ => ⟨S48x1536, .f32⟩
  | .hbm, ⟨33, _⟩ => ⟨S_, .i32⟩
  | .hbm, ⟨34, _⟩ => ⟨S1, .i32⟩
  | .hbm, ⟨35, _⟩ => ⟨S128x1536, .f32⟩
  | .hbm, ⟨36, _⟩ => ⟨S128x1536, .bf16⟩
  | .hbm, ⟨37, _⟩ => ⟨S1x1536, .f32⟩
  | .hbm, ⟨38, _⟩ => ⟨S16x1536, .f32⟩
  | .hbm, ⟨39, _⟩ => ⟨S1x1536, .f32⟩
  | .hbm, ⟨40, _⟩ => ⟨S1536x768, .f32⟩
  | .hbm, ⟨41, _⟩ => ⟨S1536x768, .bf16⟩
  | .hbm, ⟨42, _⟩ => ⟨S2x2048x768, .f32⟩
  | .local _ .vmem, ⟨0, _⟩ => ⟨S1x256x768, .f32⟩
  | .local _ .vmem, ⟨1, _⟩ => ⟨S1x256x768, .f32⟩
  | .local _ .vmem, ⟨2, _⟩ => ⟨S768x3072, .bf16⟩
  | .local _ .vmem, ⟨3, _⟩ => ⟨S4x1536, .f32⟩
  | .local _ .vmem, ⟨4, _⟩ => ⟨S1x1536, .f32⟩
  | .local _ .vmem, ⟨5, _⟩ => ⟨S1536x384, .bf16⟩
  | .local _ .vmem, ⟨6, _⟩ => ⟨S128x1536, .bf16⟩
  | .local _ .vmem, ⟨7, _⟩ => ⟨S1x1536, .f32⟩
  | .local _ .vmem, ⟨8, _⟩ => ⟨S16x1536, .f32⟩
  | .local _ .vmem, ⟨9, _⟩ => ⟨S1x1536, .f32⟩
  | .local _ .vmem, ⟨10, _⟩ => ⟨S1536x768, .bf16⟩
  | .local _ .vmem, ⟨11, _⟩ => ⟨S1x256x768, .f32⟩
  | .local _ .vmem, ⟨12, _⟩ => ⟨S1x256x768, .f32⟩
  | .local _ .vmem, ⟨13, _⟩ => ⟨S16x1536, .bf16⟩
  | .local _ .vmem, ⟨14, _⟩ => ⟨S8x1536, .f32⟩
  | .local _ .vmem, ⟨15, _⟩ => ⟨S256x16x1536, .bf16⟩
  | .local _ .vmem, ⟨16, _⟩ => ⟨S256x16x1536, .bf16⟩
  | .local _ .vmem, ⟨17, _⟩ => ⟨S256x16x1536, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1536x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1536x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S2x2048x768 : Shape := ⟨3, ![2, 2048, 768]⟩
abbrev S3072x768 : Shape := ⟨2, ![3072, 768]⟩
abbrev S1536x4 : Shape := ⟨2, ![1536, 4]⟩
abbrev S1536 : Shape := ⟨1, ![1536]⟩
abbrev S80x1536 : Shape := ⟨2, ![80, 1536]⟩
abbrev S1536x48 : Shape := ⟨2, ![1536, 48]⟩
abbrev S1536x16 : Shape := ⟨2, ![1536, 16]⟩
abbrev S768x1536 : Shape := ⟨2, ![768, 1536]⟩
abbrev S2x2048x3072 : Shape := ⟨3, ![2, 2048, 3072]⟩
abbrev S2x2048x1536 : Shape := ⟨3, ![2, 2048, 1536]⟩
abbrev S_ : Shape := ⟨0, ![]⟩
abbrev S2x2051x1536 : Shape := ⟨3, ![2, 2051, 1536]⟩
abbrev S1536x1 : Shape := ⟨2, ![1536, 1]⟩
abbrev S1x1x1536 : Shape := ⟨3, ![1, 1, 1536]⟩
abbrev S2x2048x80 : Shape := ⟨3, ![2, 2048, 80]⟩
abbrev S2x2048x48 : Shape := ⟨3, ![2, 2048, 48]⟩
abbrev S2x2048x16 : Shape := ⟨3, ![2, 2048, 16]⟩
abbrev S2x1536x16 : Shape := ⟨3, ![2, 1536, 16]⟩
abbrev S2048x2x1536 : Shape := ⟨3, ![2048, 2, 1536]⟩
abbrev S2048x2x16 : Shape := ⟨3, ![2048, 2, 16]⟩
abbrev S1x2x1536 : Shape := ⟨3, ![1, 2, 1536]⟩
abbrev S2x1536 : Shape := ⟨2, ![2, 1536]⟩
abbrev S1x2x16 : Shape := ⟨3, ![1, 2, 16]⟩
abbrev S2x16 : Shape := ⟨2, ![2, 16]⟩
abbrev S2x1536x1 : Shape := ⟨3, ![2, 1536, 1]⟩
abbrev S1x1536x16 : Shape := ⟨3, ![1, 1536, 16]⟩
abbrev S2x1x16 : Shape := ⟨3, ![2, 1, 16]⟩

abbrev nBuf : Space → Nat
  | .hbm => 156
  | .vmem => 0
  | .smem => 0
  | _ => 0

abbrev hbmTy0_0 (i : Nat) : BufTy := match i % 128 with
  | 0 => ⟨S2x2048x768, .f32⟩
  | 1 => ⟨S3072x768, .f32⟩
  | 2 => ⟨S1536x4, .f32⟩
  | 3 => ⟨S1536, .f32⟩
  | 4 => ⟨S80x1536, .f32⟩
  | 5 => ⟨S1536x48, .f32⟩
  | 6 => ⟨S1536, .f32⟩
  | 7 => ⟨S1536x16, .f32⟩
  | 8 => ⟨S1536, .f32⟩
  | 9 => ⟨S768x1536, .f32⟩
  | 10 => ⟨S2x2048x3072, .f32⟩
  | 11 => ⟨S2x2048x1536, .f32⟩
  | 12 => ⟨S2x2048x1536, .f32⟩
  | 13 => ⟨S_, .i32⟩
  | 14 => ⟨S_, .f32⟩
  | 15 => ⟨S2x2051x1536, .f32⟩
  | 16 => ⟨S2x2048x1536, .f32⟩
  | 17 => ⟨S1536x1, .f32⟩
  | 18 => ⟨S1536, .f32⟩
  | 19 => ⟨S1x1x1536, .f32⟩
  | 20 => ⟨S2x2048x1536, .f32⟩
  | 21 => ⟨S2x2048x1536, .f32⟩
  | 22 => ⟨S_, .f32⟩
  | 23 => ⟨S2x2048x1536, .f32⟩
  | 24 => ⟨S2x2048x1536, .f32⟩
  | 25 => ⟨S2x2048x1536, .f32⟩
  | 26 => ⟨S1536x1, .f32⟩
  | 27 => ⟨S1536, .f32⟩
  | 28 => ⟨S1x1x1536, .f32⟩
  | 29 => ⟨S2x2048x1536, .f32⟩
  | 30 => ⟨S2x2048x1536, .f32⟩
  | 31 => ⟨S2x2048x1536, .f32⟩
  | 32 => ⟨S2x2048x1536, .f32⟩
  | 33 => ⟨S1536x1, .f32⟩
  | 34 => ⟨S1536, .f32⟩
  | 35 => ⟨S1x1x1536, .f32⟩
  | 36 => ⟨S2x2048x1536, .f32⟩
  | 37 => ⟨S2x2048x1536, .f32⟩
  | 38 => ⟨S2x2048x1536, .f32⟩
  | 39 => ⟨S2x2048x1536, .f32⟩
  | 40 => ⟨S1536x1, .f32⟩
  | 41 => ⟨S1536, .f32⟩
  | 42 => ⟨S1x1x1536, .f32⟩
  | 43 => ⟨S2x2048x1536, .f32⟩
  | 44 => ⟨S2x2048x1536, .f32⟩
  | 45 => ⟨S2x2048x1536, .f32⟩
  | 46 => ⟨S1x1x1536, .f32⟩
  | 47 => ⟨S2x2048x1536, .f32⟩
  | 48 => ⟨S2x2048x1536, .f32⟩
  | 49 => ⟨S2x2048x1536, .f32⟩
  | 50 => ⟨S2x2048x1536, .f32⟩
  | 51 => ⟨S_, .f32⟩
  | 52 => ⟨S2x2048x1536, .f32⟩
  | 53 => ⟨S2x2048x1536, .f32⟩
  | 54 => ⟨S_, .f32⟩
  | 55 => ⟨S2x2048x1536, .f32⟩
  | 56 => ⟨S2x2048x1536, .f32⟩
  | 57 => ⟨S2x2048x1536, .f32⟩
  | 58 => ⟨S2x2048x80, .f32⟩
  | 59 => ⟨S2x2048x48, .f32⟩
  | 60 => ⟨S2x2048x16, .f32⟩
  | 61 => ⟨S2x2048x16, .f32⟩
  | 62 => ⟨S2x2048x1536, .f32⟩
  | 63 => ⟨S1x1x1536, .f32⟩
  | 64 => ⟨S2x2048x1536, .f32⟩
  | 65 => ⟨S2x2048x1536, .f32⟩
  | 66 => ⟨S_, .f32⟩
  | 67 => ⟨S2x2048x1536, .f32⟩
  | 68 => ⟨S2x2048x1536, .f32⟩
  | 69 => ⟨S2x2048x1536, .f32⟩
  | 70 => ⟨S2x2048x1536, .f32⟩
  | 71 => ⟨S2x2048x1536, .i1⟩
  | 72 => ⟨S2x2048x1536, .f32⟩
  | 73 => ⟨S2x2048x1536, .f32⟩
  | 74 => ⟨S2x2048x1536, .f32⟩
  | 75 => ⟨S2x2048x1536, .f32⟩
  | 76 => ⟨S2x2048x1536, .f32⟩
  | 77 => ⟨S2x2048x1536, .f32⟩
  | 78 => ⟨S2x2048x1536, .f32⟩
  | 79 => ⟨S2x2048x1536, .f32⟩
  | 80 => ⟨S1536x16, .f32⟩
  | 81 => ⟨S1536x16, .f32⟩
  | 82 => ⟨S_, .f32⟩
  | 83 => ⟨S2x1536x16, .f32⟩
  | 84 => ⟨S2048x2x1536, .f32⟩
  | 85 => ⟨S2048x2x16, .f32⟩
  | 86 => ⟨S2048x2x16, .f32⟩
  | 87 => ⟨S2048x2x1536, .f32⟩
  | 88 => ⟨S_, .f32⟩
  | 89 => ⟨S2048x2x1536, .f32⟩
  | 90 => ⟨S_, .i32⟩
  | 91 => ⟨S2048x2x1536, .f32⟩
  | 92 => ⟨S2048x2x16, .f32⟩
  | 93 => ⟨S2048x2x16, .f32⟩
  | 94 => ⟨S2048x2x1536, .f32⟩
  | 95 => ⟨S1536x16, .f32⟩
  | 96 => ⟨S_, .i32⟩
  | 97 => ⟨S2x1536x16, .f32⟩
  | 98 => ⟨S2048x2x1536, .f32⟩
  | 99 => ⟨S_, .i32⟩
  | 100 => ⟨S_, .i1⟩
  | 101 => ⟨S_, .i32⟩
  | 102 => ⟨S_, .i32⟩
  | 103 => ⟨S1x2x1536, .f32⟩
  | 104 => ⟨S2x1536, .f32⟩
  | 105 => ⟨S_, .i32⟩
  | 106 => ⟨S_, .i32⟩
  | 107 => ⟨S1x2x16, .f32⟩
  | 108 => ⟨S2x16, .f32⟩
  | 109 => ⟨S_, .i32⟩
  | 110 => ⟨S_, .i32⟩
  | 111 => ⟨S1x2x16, .f32⟩
  | 112 => ⟨S2x16, .f32⟩
  | 113 => ⟨S_, .i32⟩
  | 114 => ⟨S_, .i32⟩
  | 115 => ⟨S1x2x1536, .f32⟩
  | 116 => ⟨S2x1536, .f32⟩
  | 117 => ⟨S2x1536x1, .f32⟩
  | 118 => ⟨S1x1536x16, .f32⟩
  | 119 => ⟨S2x1536x16, .f32⟩
  | 120 => ⟨S2x1536x16, .f32⟩
  | 121 => ⟨S2x1536x16, .f32⟩
  | 122 => ⟨S2x1536x16, .f32⟩
  | 123 => ⟨S2x1536x16, .f32⟩
  | 124 => ⟨S2x1536x1, .f32⟩
  | 125 => ⟨S2x1x16, .f32⟩
  | 126 => ⟨S2x1536x16, .f32⟩
  | 127 => ⟨S2x1536x16, .f32⟩
  | _ => ⟨S2x2048x768, .f32⟩

abbrev hbmTy0_1 (i : Nat) : BufTy := match i % 128 with
  | 0 => ⟨S2x1536x16, .f32⟩
  | 1 => ⟨S2x1536x1, .f32⟩
  | 2 => ⟨S2x1536x16, .f32⟩
  | 3 => ⟨S2x1536x16, .f32⟩
  | 4 => ⟨S2x1536x16, .f32⟩
  | 5 => ⟨S2x1536, .f32⟩
  | 6 => ⟨S1x2x1536, .f32⟩
  | 7 => ⟨S_, .i32⟩
  | 8 => ⟨S_, .i32⟩
  | 9 => ⟨S2048x2x1536, .f32⟩
  | 10 => ⟨S_, .i32⟩
  | 11 => ⟨S_, .i32⟩
  | 12 => ⟨S2x2048x1536, .f32⟩
  | 13 => ⟨S1x1x1536, .f32⟩
  | 14 => ⟨S2x2048x1536, .f32⟩
  | 15 => ⟨S2x2048x1536, .f32⟩
  | 16 => ⟨S2x2048x1536, .f32⟩
  | 17 => ⟨S2x2048x1536, .f32⟩
  | 18 => ⟨S2x2048x1536, .f32⟩
  | 19 => ⟨S_, .f32⟩
  | 20 => ⟨S2x2048x1536, .f32⟩
  | 21 => ⟨S2x2048x1536, .f32⟩
  | 22 => ⟨S_, .f32⟩
  | 23 => ⟨S2x2048x1536, .f32⟩
  | 24 => ⟨S2x2048x1536, .f32⟩
  | 25 => ⟨S2x2048x1536, .f32⟩
  | 26 => ⟨S2x2048x1536, .f32⟩
  | 27 => ⟨S2x2048x768, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_1 : Ref sig .tc := ⟨.hbm, 88, rfl⟩
abbrev main_v53 : Ref sig .tc := ⟨.hbm, 89, rfl⟩
abbrev main_c_2 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_v54_3 : Ref sig .tc := ⟨.hbm, 94, rfl⟩
abbrev main_v54_4 : Ref sig .tc := ⟨.hbm, 95, rfl⟩
abbrev main_v54_5 : Ref sig .tc := ⟨.hbm, 96, rfl⟩
abbrev main_v54_6 : Ref sig .tc := ⟨.hbm, 97, rfl⟩
abbrev main_v54_7 : Ref sig .tc := ⟨.hbm, 98, rfl⟩
abbrev main_while0c_c_10 : Ref sig .tc := ⟨.hbm, 99, rfl⟩
abbrev main_while0c_v63 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_v0 : Ref sig .tc := ⟨.hbm, 103, rfl⟩
abbrev main_while0b_v63 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_v0 : Ref sig .tc := ⟨.hbm, 107, rfl⟩
abbrev main_while0b_v64 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_v0 : Ref sig .tc := ⟨.hbm, 111, rfl⟩
abbrev main_while0b_v65 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_v0 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_call7_v0 : Ref sig .tc := ⟨.hbm, 134, rfl⟩
abbrev main_while0b_call7_c : Ref sig .tc := ⟨.hbm, 135, rfl⟩
abbrev main_while0b_call7_c_0 : Ref sig .tc := ⟨.hbm, 136, rfl⟩
abbrev main_while0b_v84 : Ref sig .tc := ⟨.hbm, 137, rfl⟩
abbrev main_while0b_c_10 : Ref sig .tc := ⟨.hbm, 138, rfl⟩
abbrev main_while0b_v85 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_call8_v0 : Ref sig .tc := ⟨.hbm, 145, rfl⟩
abbrev main_call8_v1 : Ref sig .tc := ⟨.hbm, 146, rfl⟩
abbrev main_call8_cst : Ref sig .tc := ⟨.hbm, 147, rfl⟩
abbrev main_call8_v2 : Ref sig .tc := ⟨.hbm, 148, rfl⟩
abbrev main_call8_v3 : Ref sig .tc := ⟨.hbm, 149, rfl⟩
abbrev main_call8_cst_0 : Ref sig .tc := ⟨.hbm, 150, rfl⟩
abbrev main_call8_v4 : Ref sig .tc := ⟨.hbm, 151, rfl⟩
abbrev main_call8_v5 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩

abbrev nD : Nat := 1
abbrev τ : Topo := Topo.v7x

variable {F : FTy → Type} [FloatOps F]

abbrev main_while0_count : Scf.Loop 32 := ⟨0#32, 2048#32, 1#32⟩
-- ==== Proof.K.Chunk.lean ====
/- What the kernel's body leaves behind at one grid point, in a closed form that does not write the 256 unrolled
   time steps out: the state recursion is `hAt`, the list of the rows it stores into the history scratch is `histL`. -/
module

public import proofs.«01_k».proof.Proof.Gen.KernelIdeal.Value

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen

variable {F : FTy → Type} [FloatOps F] [Named F]

/-- Row `t` of a 256-row scratch lies inside it. -/
theorem inbRow (t : ℕ) (h : t < 256) : ∀ a, (![t, 0, 0] : Fin 3 → ℕ) a + S1x16x1536.size a ≤ S256x16x1536.size a := by
  intro a
  match a with
  | 0 => show t + 1 ≤ 256; omega
  | 1 => show 0 + 16 ≤ 16; omega
  | 2 => show 0 + 1536 ≤ 1536; omega

/-- The 64 rows from `t` on of a 256-row scratch lie inside it. -/
theorem inbBlk (t : ℕ) (h : t + 64 ≤ 256) : ∀ a, (![t, 0, 0] : Fin 3 → ℕ) a + S64x16x1536.size a ≤ S256x16x1536.size a := by
  intro a
  match a with
  | 0 => show t + 64 ≤ 256; omega
  | 1 => show 0 + 16 ≤ 16; omega
  | 2 => show 0 + 1536 ≤ 1536; omega

/-- One time step: `h ↦ da·h + dbu`, the two rows as loaded. -/
def stepH (p q : Vec F S1x16x1536 .bf16) (h : Vec F S16x1536 .bf16) : Vec F S16x1536 .bf16 :=
  addf (mulf (shapeCast S16x1536 p shapeCasts_S1x16x1536_S16x1536) h) (shapeCast S16x1536 q shapeCasts_S1x16x1536_S16x1536)

/-- The state before time step `t` of the chunk, from the rows `p`, `q` and the state `h0` at the chunk's start. -/
def hAt (p q : ∀ t, t < 256 → Vec F S1x16x1536 .bf16) (h0 : Vec F S16x1536 .bf16) (t : ℕ) : t ≤ 256 → Vec F S16x1536 .bf16 :=
  Nat.rec (motive := fun t => t ≤ 256 → Vec F S16x1536 .bf16) (fun _ => h0)
    (fun t ih h => stepH (p t h) (q t h) (ih (Nat.le_of_succ_le h))) t

/-- The rows stored into the history scratch by the first `t` steps, the last first. -/
def histL (p q : ∀ t, t < 256 → Vec F S1x16x1536 .bf16) (h0 : Vec F S16x1536 .bf16) (t : ℕ) : t ≤ 256 → List (View.Piece (Elt F) S256x16x1536 .bf16) :=
  Nat.rec (motive := fun t => t ≤ 256 → List (View.Piece (Elt F) S256x16x1536 .bf16)) (fun _ => [])
    (fun t ih h => ⟨Rect.unit (s := S256x16x1536) ![t, 0, 0] S1x16x1536.size (inbRow t h),
        shapeCast S1x16x1536 (hAt p q h0 (t + 1) h) shapeCasts_S16x1536_S1x16x1536⟩ :: ih (Nat.le_of_succ_le h)) t

/-- Row `t` of what was stored whole into a scratch, loaded back. -/
def rowOf (v : Memref sig .tc .vmem S256x16x1536 .bf16) (X : Vec F S256x16x1536 .bf16) (t : ℕ) (h : t < 256) : Vec F S1x16x1536 .bf16 :=
  v.view.readCov [⟨Rect.unit (s := S256x16x1536) ![0, 0, 0] S256x16x1536.size inb_S256x16x1536_S256x16x1536_0_0_0, X⟩]
    (Rect.unit (s := S256x16x1536) ![t, 0, 0] S1x16x1536.size (inbRow t h)).toLoadRect

/-- The decay rows of a chunk. -/
def daOf (acc : FVec F S256x1536 .f32) (l3 : Vec F S1x1536 .f32) (l4 : Vec F S1536x384 .bf16) (l5 : Vec F S128x1536 .bf16)
    (l6 : Vec F S1x1536 .f32) (l7 : Vec F S16x1536 .f32) : Vec F S256x16x1536 .bf16 :=
  k0_pay16 (k0_pay12 acc (k0_pay9 l3) l4 l5 l6) (k0_pay15 l7)

/-- The input rows of a chunk. -/
def dbuOf (acc : FVec F S256x1536 .f32) (l3 : Vec F S1x1536 .f32) (l4 : Vec F S1536x384 .bf16) (l5 : Vec F S128x1536 .bf16)
    (l6 : Vec F S1x1536 .f32) : Vec F S256x16x1536 .bf16 :=
  k0_pay17 (k0_pay10 acc (k0_pay9 l3)) (k0_pay12 acc (k0_pay9 l3) l4 l5 l6) (k0_pay13 acc (k0_pay9 l3) l4)

/-- The state before step `t` over the two scratches the rows are stored in. -/
def hOf (v2 v3 : Memref sig .tc .vmem S256x16x1536 .bf16) (da dbu : Vec F S256x16x1536 .bf16) (h0 : Vec F S16x1536 .bf16) (t : ℕ) (h : t ≤ 256) : Vec F S16x1536 .bf16 :=
  hAt (rowOf v2 da) (rowOf v3 dbu) h0 t h

/-- The history scratch's pieces at the end of the chunk. -/
def histOf (v2 v3 : Memref sig .tc .vmem S256x16x1536 .bf16) (da dbu : Vec F S256x16x1536 .bf16) (h0 : Vec F S16x1536 .bf16) : List (View.Piece (Elt F) S256x16x1536 .bf16) :=
  histL (rowOf v2 da) (rowOf v3 dbu) h0 256 le_rfl

/-- 64 rows of the history loaded back. -/
def blkOf (v4 : Memref sig .tc .vmem S256x16x1536 .bf16) (L : List (View.Piece (Elt F) S256x16x1536 .bf16)) (t : ℕ) (h : t + 64 ≤ 256) : Vec F S64x16x1536 .bf16 :=
  v4.view.readCov L (Rect.unit (s := S256x16x1536) ![t, 0, 0] S64x16x1536.size (inbBlk t h)).toLoadRect

/-- The mask of the block-diagonal left factor. -/
def maskOf : IVec S64x1024 1 :=
  k0_pay569 (iota .tc S64x1024 32 [1] iota_S64x1024_d1_w32) (iota .tc S64x1024 32 [0] iota_S64x1024_d0_w32) 16#32 k0_pay566 k0_pay567 k0_pay568

/-- The block the point writes, from the loads, the convolution's accumulator and the history blocks. -/
def outOf (l0 : Vec F S1x256x768 .f32) (l1 : Vec F S768x3072 .bf16) (acc : FVec F S256x1536 .f32) (l3 : Vec F S1x1536 .f32)
    (l4 : Vec F S1536x384 .bf16) (l8 : Vec F S1x1536 .f32) (l9 : Vec F S1536x768 .bf16) (b0 b1 b2 b3 : Vec F S64x16x1536 .bf16) : Vec F S1x256x768 .f32 :=
  k0_pay1 (k0_pay573 (k0_pay6 l0 l1) (k0_pay10 acc (k0_pay9 l3)) (k0_pay565 (k0_pay14 acc (k0_pay9 l3) l4)) maskOf
    (k0_pay570 (k0_pay565 (k0_pay14 acc (k0_pay9 l3) l4)) (iota .tc S64x1024 32 [1] iota_S64x1024_d1_w32) (iota .tc S64x1024 32 [0] iota_S64x1024_d0_w32) 16#32 k0_pay566 k0_pay567 k0_pay568 b0)
    (k0_pay571 (k0_pay565 (k0_pay14 acc (k0_pay9 l3) l4)) (iota .tc S64x1024 32 [1] iota_S64x1024_d1_w32) (iota .tc S64x1024 32 [0] iota_S64x1024_d0_w32) 16#32 k0_pay566 k0_pay567 k0_pay568 b1)
    (k0_pay572 (k0_pay565 (k0_pay14 acc (k0_pay9 l3) l4)) (iota .tc S64x1024 32 [1] iota_S64x1024_d1_w32) (iota .tc S64x1024 32 [0] iota_S64x1024_d0_w32) 16#32 k0_pay566 k0_pay567 k0_pay568 b2)
    b3 l8) l9

end Cert.KernelIdeal.Chunk

end
-- ==== Proof.K.RunEq.lean ====
/- The generated run of the body, case by case, equal to the closed form of `Chunk`: what it leaves in the output
   block, in the carried state and in the carried tail. The equations are closed by evaluation, each side reducing to
   the other's operations. -/
module

public import proofs.«01_k».proof.Proof.K.Chunk

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen

variable {F : FTy → Type} [FloatOps F] [Named F]

variable (c : Dev nD) (i : grid0.Coords) (arg2 : Memref sig .tc .vmem S1x256x768 .f32) (harg2 : arg2.IsWhole) (arg3 : Memref sig .tc .vmem S768x3072 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S1536x384 .bf16) (harg6 : arg6.IsWhole) (arg7 : Memref sig .tc .vmem S128x1536 .bf16) (harg7 : arg7.IsWhole) (arg8 : Memref sig .tc .vmem S1x1536 .f32) (harg8 : arg8.IsWhole) (arg9 : Memref sig .tc .vmem S16x1536 .f32) (harg9 : arg9.IsWhole) (arg10 : Memref sig .tc .vmem S1x1536 .f32) (harg10 : arg10.IsWhole) (arg11 : Memref sig .tc .vmem S1536x768 .bf16) (harg11 : arg11.IsWhole) (arg12 : Memref sig .tc .vmem S1x256x768 .f32) (harg12 : arg12.IsWhole) (arg13 : Memref sig .tc .vmem S16x1536 .bf16) (harg13 : arg13.IsWhole) (arg14 : Memref sig .tc .vmem S8x1536 .f32) (harg14 : arg14.IsWhole) (arg15 : Memref sig .tc .vmem S256x16x1536 .bf16) (harg15 : arg15.IsWhole) (arg16 : Memref sig .tc .vmem S256x16x1536 .bf16) (harg16 : arg16.IsWhole) (arg17 : Memref sig .tc .vmem S256x16x1536 .bf16) (harg17 : arg17.IsWhole)
variable (x0 : Vec F S1x256x768 .f32) (x1 : Vec F S768x3072 .bf16) (x2 : Vec F S4x1536 .f32) (x3 : Vec F S1x1536 .f32)
  (x4 : Vec F S1536x384 .bf16) (x5 : Vec F S128x1536 .bf16) (x6 : Vec F S1x1536 .f32) (x7 : Vec F S16x1536 .f32)
  (x8 : Vec F S1x1536 .f32) (x9 : Vec F S1536x768 .bf16) (xs0 : Vec F S16x1536 .bf16) (xs1 : Vec F S8x1536 .f32)

/-- A block of the first input's shape loaded whole. -/
def wholeX (v : Memref sig .tc .vmem S1x256x768 .f32) (hv : v.IsWhole) (X : Vec F S1x256x768 .f32) : Vec F S1x256x768 .f32 :=
  View.readAt (Elt F) v.view (Rect.unit (s := S1x256x768) ![0, 0, 0] S1x256x768.size inb_S1x256x768_S1x256x768_0_0_0).toLoadRect (hv.unread X)

/-- A two-axis block loaded whole. -/
def whole2 {a b : ℕ} {e : EltTy} (v : Memref sig .tc .vmem ⟨2, ![a, b]⟩ e) (hv : v.IsWhole) (inb : ∀ i, (![0, 0] : Fin 2 → ℕ) i + (![a, b] : Fin 2 → ℕ) i ≤ (![a, b] : Fin 2 → ℕ) i)
    (X : (⟨2, ![a, b]⟩ : Shape).Idx → Elt F e) : (⟨2, ![a, b]⟩ : Shape).Idx → Elt F e :=
  View.readAt (Elt F) v.view (Rect.unit (s := ⟨2, ![a, b]⟩) ![0, 0] ![a, b] inb).toLoadRect (hv.unread X)

/-- The state loaded back after a first chunk cleared it. -/
def stA : Vec F S16x1536 .bf16 :=
  arg13.view.readCov [⟨Rect.unit (s := S16x1536) ![0, 0] S16x1536.size inb_S16x1536_S16x1536_0_0, (k0_pay2 : FVec F S16x1536 .bf16)⟩]
    (Rect.unit (s := S16x1536) ![0, 0] S16x1536.size inb_S16x1536_S16x1536_0_0).toLoadRect

/-- The first 3 rows of the tail scratch loaded back over what the point before left. -/
def tailB : Vec F S3x1536 .f32 :=
  View.readAt (Elt F) arg14.view (Rect.unit (s := S8x1536) ![0, 0] S3x1536.size inb_S8x1536_S3x1536_0_0).toLoadRect (harg14.unread xs1)

/-- The first 3 rows of the tail scratch, over the pieces a first chunk stored into it. -/
def tailA : Vec F S3x1536 .f32 :=
  arg14.view.readCov [⟨Rect.unit (s := S8x1536) ![0, 0] S8x1536.size inb_S8x1536_S8x1536_0_0, (k0_pay3 : FVec F S8x1536 .f32)⟩]
    (Rect.unit (s := S8x1536) ![0, 0] S3x1536.size inb_S8x1536_S3x1536_0_0).toLoadRect

/-- Case B: the pieces left in the output block. -/
theorem out_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).1 = [⟨Rect.unit (s := S1x256x768) ![0, 0, 0] S1x256x768.size inb_S1x256x768_S1x256x768_0_0_0,
      outOf (wholeX arg2 harg2 x0) (whole2 arg3 harg3 inb_S768x3072_S768x3072_0_0 x1) (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg10 harg10 inb_S1x1536_S1x1536_0_0 x8) (whole2 arg11 harg11 inb_S1536x768_S1536x768_0_0 x9) (blkOf arg17 (histOf arg15 arg16 (daOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (whole2 arg13 harg13 inb_S16x1536_S16x1536_0_0 xs0)) 0 (by decide)) (blkOf arg17 (histOf arg15 arg16 (daOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (whole2 arg13 harg13 inb_S16x1536_S16x1536_0_0 xs0)) 64 (by decide)) (blkOf arg17 (histOf arg15 arg16 (daOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (whole2 arg13 harg13 inb_S16x1536_S16x1536_0_0 xs0)) 128 (by decide)) (blkOf arg17 (histOf arg15 arg16 (daOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (whole2 arg13 harg13 inb_S16x1536_S16x1536_0_0 xs0)) 192 (by decide))⟩] := by
  sl_kernel_rfl

/-- Case B: the pieces left in the carried state. -/
theorem st_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).2.1 = [⟨Rect.unit (s := S16x1536) ![0, 0] S16x1536.size inb_S16x1536_S16x1536_0_0,
      shapeCast S16x1536 (hOf arg15 arg16 (daOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailB arg14 harg14 xs1) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (whole2 arg13 harg13 inb_S16x1536_S16x1536_0_0 xs0) 256 le_rfl) shapeCasts_S16x1536_S16x1536⟩] := by
  sl_kernel_rfl

/-- Case B: the pieces left in the carried tail. -/
theorem tl_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).2.2.1 = [⟨Rect.unit (s := S8x1536) ![0, 0] S3x1536.size inb_S8x1536_S3x1536_0_0, k0_pay8 (wholeX arg2 harg2 x0) (whole2 arg3 harg3 inb_S768x3072_S768x3072_0_0 x1)⟩] := by
  sl_kernel_rfl

/-- Case A: the pieces left in the output block. -/
theorem out_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1 = [⟨Rect.unit (s := S1x256x768) ![0, 0, 0] S1x256x768.size inb_S1x256x768_S1x256x768_0_0_0,
      outOf (wholeX arg2 harg2 x0) (whole2 arg3 harg3 inb_S768x3072_S768x3072_0_0 x1) (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg10 harg10 inb_S1x1536_S1x1536_0_0 x8) (whole2 arg11 harg11 inb_S1536x768_S1536x768_0_0 x9) (blkOf arg17 (histOf arg15 arg16 (daOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (stA (F := F) arg13)) 0 (by decide)) (blkOf arg17 (histOf arg15 arg16 (daOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (stA (F := F) arg13)) 64 (by decide)) (blkOf arg17 (histOf arg15 arg16 (daOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (stA (F := F) arg13)) 128 (by decide)) (blkOf arg17 (histOf arg15 arg16 (daOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (stA (F := F) arg13)) 192 (by decide))⟩] := by
  sl_kernel_rfl

/-- Case A: the pieces left in the carried state. -/
theorem st_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1 = [⟨Rect.unit (s := S16x1536) ![0, 0] S16x1536.size inb_S16x1536_S16x1536_0_0,
      shapeCast S16x1536 (hOf arg15 arg16 (daOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6) (whole2 arg9 harg9 inb_S16x1536_S16x1536_0_0 x7)) (dbuOf (k0_pay7 (wholeX arg2 harg2 x0) (whole2 arg3 harg3 inb_S768x3072_S768x3072_0_0 x1) (tailA (F := F) arg14) (whole2 arg4 harg4 inb_S4x1536_S4x1536_0_0 x2)) (whole2 arg5 harg5 inb_S1x1536_S1x1536_0_0 x3) (whole2 arg6 harg6 inb_S1536x384_S1536x384_0_0 x4) (whole2 arg7 harg7 inb_S128x1536_S128x1536_0_0 x5) (whole2 arg8 harg8 inb_S1x1536_S1x1536_0_0 x6)) (stA (F := F) arg13) 256 le_rfl) shapeCasts_S16x1536_S16x1536⟩, ⟨Rect.unit (s := S16x1536) ![0, 0] S16x1536.size inb_S16x1536_S16x1536_0_0, (k0_pay2 : FVec F S16x1536 .bf16)⟩] := by
  sl_kernel_rfl

/-- Case A: the pieces left in the carried tail. -/
theorem tl_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.1 = [⟨Rect.unit (s := S8x1536) ![0, 0] S3x1536.size inb_S8x1536_S3x1536_0_0, k0_pay8 (wholeX arg2 harg2 x0) (whole2 arg3 harg3 inb_S768x3072_S768x3072_0_0 x1)⟩, ⟨Rect.unit (s := S8x1536) ![0, 0] S8x1536.size inb_S8x1536_S8x1536_0_0, (k0_pay3 : FVec F S8x1536 .f32)⟩] := by
  sl_kernel_rfl

end Cert.KernelIdeal.Chunk

end
-- ==== Proof.Math.Scalars.lean ====
module

public import Idealize.ShloMosaic.PureOps.Ideal.Laws
public import Mathlib.Analysis.SpecialFunctions.Trigonometric.DerivHyp
public import Mathlib.Analysis.SpecialFunctions.Pow.Real

/-!
# The scalar functions, and why the kernel's forms of them are the reference's

The kernel writes the exponential in base two, the sigmoid through `tanh`, and the softplus with
its logarithm rescaled twice. At the ideal values each of these is the plain function.
-/

@[expose] public section

open Idealize.ShloMosaic

namespace Cert.Mamba

noncomputable section

/-- `x · 1 / (1 + e⁻ˣ)`. -/
def silu (x : EReal) : EReal := x * Ideal.logistic x

/-- `max x 0 + log (1 + e^(-|x|))`. -/
def softplus (x : EReal) : EReal := max x 0 + Ideal.log1p (Ideal.exp (-(max x (-x))))

/-- The constant `1 / ln 2`. -/
def cLog2e : EReal := (((Real.log 2)⁻¹ : ℝ) : EReal)

theorem log_two_pos : 0 < Real.log 2 := Real.log_pos (by norm_num)

/-- Base two, rescaled: `2 ^ (x / ln 2) = eˣ`. -/
theorem exp2_mul_log2e (x : EReal) : Ideal.exp2 (x * cLog2e) = Ideal.exp x := by
  have hp : 0 < (Real.log 2)⁻¹ := inv_pos.mpr log_two_pos
  unfold cLog2e
  induction x with
  | bot => rw [EReal.bot_mul_coe_of_pos hp]; rfl
  | top => rw [EReal.top_mul_coe_of_pos hp]; rfl
  | coe r =>
    rw [← EReal.coe_mul, Ideal.exp2_coe, Ideal.exp_coe]
    congr 1
    change (2 : ℝ) ^ (r * (Real.log 2)⁻¹) = _
    rw [Real.rpow_def_of_pos (by norm_num)]
    congr 1
    field_simp [log_two_pos.ne']

/-- The same with the constant negated. -/
theorem exp2_mul_neg_log2e (x : EReal) :
    Ideal.exp2 (x * ((-((Real.log 2)⁻¹) : ℝ) : EReal)) = Ideal.exp (-x) := by
  rw [EReal.coe_neg, mul_neg, ← neg_mul]
  exact exp2_mul_log2e (-x)

/-- Dividing by `ln 2` and multiplying by it again changes nothing. -/
theorem mul_log2e_mul_ln2 (x : EReal) : x * cLog2e * ((Real.log 2 : ℝ) : EReal) = x := by
  unfold cLog2e
  rw [mul_assoc, ← EReal.coe_mul, inv_mul_cancel₀ log_two_pos.ne', EReal.coe_one, mul_one]

/-- The kernel's softplus. -/
theorem softplus_kernel (x : EReal) :
    max x 0 + Ideal.log (1 + Ideal.exp2 (max x (-x) * ((-((Real.log 2)⁻¹) : ℝ) : EReal)))
      * cLog2e * ((Real.log 2 : ℝ) : EReal) = softplus x := by
  rw [exp2_mul_neg_log2e, mul_log2e_mul_ln2]
  rfl

/-- The real identity behind the `tanh` form of the sigmoid. -/
theorem half_tanh_real (r : ℝ) :
    (1 / 2 : ℝ) * Real.tanh ((1 / 2) * r) + 1 / 2 = (1 + Real.exp (-r))⁻¹ := by
  have h1 : Real.exp (-r) = Real.exp (-((1/2) * r)) * Real.exp (-((1/2) * r)) := by
    rw [← Real.exp_add]; congr 1; ring
  have h2 : Real.exp ((1/2) * r) * Real.exp (-((1/2) * r)) = 1 := by
    rw [← Real.exp_add]; simp
  rw [Real.tanh_eq_sinh_div_cosh, Real.sinh_eq, Real.cosh_eq, h1]
  generalize Real.exp ((1/2) * r) = a at *
  generalize hb : Real.exp (-((1/2) * r)) = b at *
  have hbp : 0 < b := hb ▸ Real.exp_pos _
  have ha : a = b⁻¹ := eq_inv_of_mul_eq_one_left h2
  subst ha
  field_simp
  ring

/-- The kernel's sigmoid. -/
theorem half_tanh (x : EReal) :
    ((1 / 2 : ℝ) : EReal) * Ideal.tanh (((1 / 2 : ℝ) : EReal) * x) + ((1 / 2 : ℝ) : EReal)
      = Ideal.logistic x := by
  have hp : (0 : ℝ) < 1 / 2 := by norm_num
  induction x with
  | bot =>
    rw [EReal.coe_mul_bot_of_pos hp, Ideal.tanh_bot, Ideal.logistic_bot, mul_neg, mul_one,
      ← EReal.coe_neg, ← EReal.coe_add]
    norm_num
  | top =>
    rw [EReal.coe_mul_top_of_pos hp, Ideal.tanh_top, Ideal.logistic_top, mul_one, ← EReal.coe_add]
    norm_num
  | coe r =>
    rw [← EReal.coe_mul, Ideal.tanh_coe, ← EReal.coe_mul, ← EReal.coe_add, half_tanh_real,
      Ideal.logistic_coe]

/-- The word of one half. -/
theorem ofBits_half : Ideal.ofBits .f32 0x3F000000#32 = ((1 / 2 : ℝ) : EReal) := by
  simp [Ideal.ofBits, Ideal.ieee, -EReal.coe_mul]; norm_num

/-- The kernel's silu. -/
theorem silu_kernel (x : EReal) :
    x * (Ideal.ofBits .f32 0x3F000000#32 * Ideal.tanh (Ideal.ofBits .f32 0x3F000000#32 * x)
      + Ideal.ofBits .f32 0x3F000000#32) = silu x := by
  rw [ofBits_half, half_tanh]
  rfl

end

end Cert.Mamba
-- ==== Proof.Math.Spec.lean ====
module

public import proofs.«01_k».proof.Proof.Math.Scalars

/-!
# The block, written as sums

The ten arrays are functions of their indices; time is a natural number, and the input is read at
any time (what it holds past the end never matters). The state `hS b t d n` is the one *before*
step `t`; it starts from zero.
-/

@[expose] public section

open Idealize.ShloMosaic

namespace Cert.Mamba

noncomputable section

/-- The ten arrays of the block. -/
structure Par where
  X : Fin 2 → ℕ → Fin 768 → EReal
  Win : Fin 3072 → Fin 768 → EReal
  cw : Fin 1536 → Fin 4 → EReal
  cb : Fin 1536 → EReal
  Wx : Fin 80 → Fin 1536 → EReal
  Wdt : Fin 1536 → Fin 48 → EReal
  bdt : Fin 1536 → EReal
  alog : Fin 1536 → Fin 16 → EReal
  D : Fin 1536 → EReal
  Wout : Fin 768 → Fin 1536 → EReal

variable (P : Par)

/-- The input projection. -/
def U (b : Fin 2) (t : ℕ) (e : Fin 3072) : EReal := ∑ k : Fin 768, P.X b t k * P.Win e k

/-- Its first half. -/
def uR (b : Fin 2) (t : ℕ) (d : Fin 1536) : EReal := U P b t ⟨d, by omega⟩

/-- Its second half, the gate. -/
def zR (b : Fin 2) (t : ℕ) (d : Fin 1536) : EReal := U P b t ⟨1536 + d, by omega⟩

/-- The first half, delayed by three steps, zero before the start. -/
def up (b : Fin 2) (t : ℕ) (d : Fin 1536) : EReal := if t < 3 then 0 else uR P b (t - 3) d

/-- The causal convolution over four steps. -/
def cv (b : Fin 2) (t : ℕ) (d : Fin 1536) : EReal :=
  up P b t d * P.cw d 0 + up P b (t + 1) d * P.cw d 1 + up P b (t + 2) d * P.cw d 2
    + up P b (t + 3) d * P.cw d 3

/-- The activated convolution. -/
def uc (b : Fin 2) (t : ℕ) (d : Fin 1536) : EReal := silu (cv P b t d + P.cb d)

/-- The second projection. -/
def xp (b : Fin 2) (t : ℕ) (e : Fin 80) : EReal := ∑ d : Fin 1536, uc P b t d * P.Wx e d

/-- The step sizes. -/
def dt (b : Fin 2) (t : ℕ) (d : Fin 1536) : EReal :=
  softplus (∑ r : Fin 48, xp P b t ⟨r, by omega⟩ * P.Wdt d r + P.bdt d)

/-- The input weights of the scan. -/
def Bm (b : Fin 2) (t : ℕ) (n : Fin 16) : EReal := xp P b t ⟨48 + n, by omega⟩

/-- The output weights of the scan. -/
def Cm (b : Fin 2) (t : ℕ) (n : Fin 16) : EReal := xp P b t ⟨64 + n, by omega⟩

/-- The decay of one step. -/
def dA (b : Fin 2) (t : ℕ) (d : Fin 1536) (n : Fin 16) : EReal :=
  Ideal.exp (dt P b t d * (-Ideal.exp (P.alog d n)))

/-- What one step adds. -/
def dBu (b : Fin 2) (t : ℕ) (d : Fin 1536) (n : Fin 16) : EReal :=
  dt P b t d * uc P b t d * Bm P b t n

/-- The state before step `t`. -/
def hS (b : Fin 2) : ℕ → Fin 1536 → Fin 16 → EReal
  | 0, _, _ => 0
  | t + 1, d, n => dA P b t d n * hS b t d n + dBu P b t d n

/-- The scan's result. -/
def yS (b : Fin 2) (t : ℕ) (d : Fin 1536) : EReal :=
  ∑ n : Fin 16, hS P b (t + 1) d n * Cm P b t n

/-- The gated result. -/
def gS (b : Fin 2) (t : ℕ) (d : Fin 1536) : EReal :=
  (yS P b t d + uc P b t d * P.D d) * silu (zR P b t d)

/-- The block's output. -/
def outS (b : Fin 2) (t : ℕ) (j : Fin 768) : EReal := ∑ d : Fin 1536, gS P b t d * P.Wout j d

end

end Cert.Mamba
-- ==== Proof.K.Pay.lean ====
/- The body's payloads read at an index, at the ideal values. -/
module

public import proofs.«01_k».proof.Proof.K.Chunk
public import proofs.«01_k».proof.Proof.Math.Spec
public import Idealize.ShloMosaic.Lib.Pointwise

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen Cert.Mamba

theorem named_log2e : (Named.named κ "log2e" 0x3FB8AA3B#32 : Ideal .f32) = cLog2e :=
  IdealRules.named_const.ideal_named_scalar _ _ _ _ rfl

theorem named_neg_log2e : (Named.named κ "neg_log2e" 0xBFB8AA3B#32 : Ideal .f32) = ((-((Real.log 2)⁻¹) : ℝ) : EReal) :=
  IdealRules.named_const.ideal_named_scalar _ _ _ _ rfl

theorem named_ln2 : (Named.named κ "ln2" 0x3F317218#32 : Ideal .f32) = ((Real.log 2 : ℝ) : EReal) :=
  IdealRules.named_const.ideal_named_scalar _ _ _ _ rfl

theorem pay4_apply (l0 : Vec Ideal S1x256x768 .f32) (l1 : Vec Ideal S768x3072 .bf16) (r : Fin 256) (e : Fin 3072) :
    k0_pay4 l0 l1 (ix2 r e) = ∑ k : Fin 768, l0 (ix3 0 r k) * l1 (ix2 k e) := by
  pointwise [k0_pay4]

theorem pay5_apply (l0 : Vec Ideal S1x256x768 .f32) (l1 : Vec Ideal S768x3072 .bf16) (r : Fin 256) (d : Fin 1536) :
    k0_pay5 l0 l1 (ix2 r d) = k0_pay4 l0 l1 (ix2 r ⟨d, by omega⟩) := by
  pointwise [k0_pay5]

theorem pay6_apply (l0 : Vec Ideal S1x256x768 .f32) (l1 : Vec Ideal S768x3072 .bf16) (r : Fin 256) (d : Fin 1536) :
    k0_pay6 l0 l1 (ix2 r d) = k0_pay4 l0 l1 (ix2 r ⟨1536 + d, by omega⟩) := by
  pointwise [k0_pay6]

theorem pay10_apply (acc : FVec Ideal S256x1536 .f32) (l3 : Vec Ideal S1x1536 .f32) (r : Fin 256) (d : Fin 1536) :
    k0_pay10 acc (k0_pay9 l3) (ix2 r d) = silu (acc (ix2 r d) + l3 (ix2 0 d)) := by
  rw [← silu_kernel]
  pointwise [k0_pay10, k0_pay9]

theorem pay11_apply (acc : FVec Ideal S256x1536 .f32) (l3 : FVec Ideal S1x1536 .f32) (l4 : Vec Ideal S1536x384 .bf16) (r : Fin 256) (e : Fin 384) :
    k0_pay11 acc l3 l4 (ix2 r e) = ∑ d : Fin 1536, k0_pay10 acc l3 (ix2 r d) * l4 (ix2 d e) := by
  pointwise [k0_pay11]

theorem pay12_apply (acc : FVec Ideal S256x1536 .f32) (l3 : FVec Ideal S1x1536 .f32) (l4 : Vec Ideal S1536x384 .bf16) (l5 : Vec Ideal S128x1536 .bf16) (l6 : Vec Ideal S1x1536 .f32) (r : Fin 256) (d : Fin 1536) :
    k0_pay12 acc l3 l4 l5 l6 (ix2 r d) = softplus (∑ e : Fin 128, k0_pay11 acc l3 l4 (ix2 r ⟨e, by omega⟩) * l5 (ix2 e d) + l6 (ix2 0 d)) := by
  rw [← softplus_kernel]
  pointwise [k0_pay12]
  rw [named_log2e, named_neg_log2e, named_ln2]
  rfl

theorem pay8_apply (l0 : Vec Ideal S1x256x768 .f32) (l1 : Vec Ideal S768x3072 .bf16) (r : Fin 3) (d : Fin 1536) :
    k0_pay8 l0 l1 (ix2 r d) = k0_pay5 l0 l1 (ix2 ⟨253 + r, by omega⟩ d) := by
  pointwise [k0_pay8]

theorem pay13_apply (acc : FVec Ideal S256x1536 .f32) (l3 : FVec Ideal S1x1536 .f32) (l4 : Vec Ideal S1536x384 .bf16) (r : Fin 256) (n : Fin 16) :
    k0_pay13 acc l3 l4 (ix2 r n) = k0_pay11 acc l3 l4 (ix2 r ⟨128 + n, by omega⟩) := by
  pointwise [k0_pay13]

theorem pay14_apply (acc : FVec Ideal S256x1536 .f32) (l3 : FVec Ideal S1x1536 .f32) (l4 : Vec Ideal S1536x384 .bf16) (r : Fin 256) (n : Fin 16) :
    k0_pay565 (k0_pay14 acc l3 l4) (ix2 r n) = k0_pay11 acc l3 l4 (ix2 r ⟨256 + n, by omega⟩) := by
  pointwise [k0_pay565, k0_pay14]

theorem pay16_apply (dt : FVec Ideal S256x1536 .f32) (l7 : Vec Ideal S16x1536 .f32) (r : Fin 256) (n : Fin 16) (d : Fin 1536) :
    k0_pay16 dt (k0_pay15 l7) (ix3 r n d) = Ideal.exp (dt (ix2 r d) * (-Ideal.exp (l7 (ix2 n d)))) := by
  pointwise [k0_pay16, k0_pay15]
  rw [named_log2e, zero_sub, ← mul_assoc]
  exact exp2_mul_log2e _

theorem pay17_apply (uc dt : FVec Ideal S256x1536 .f32) (B : FVec Ideal S256x16 .f32) (r : Fin 256) (n : Fin 16) (d : Fin 1536) :
    k0_pay17 uc dt B (ix3 r n d) = dt (ix2 r d) * uc (ix2 r d) * B (ix2 r n) := by
  pointwise [k0_pay17]

theorem pay1_apply (g : FVec Ideal S256x1536 .bf16) (l9 : Vec Ideal S1536x768 .bf16) (r : Fin 256) (j : Fin 768) :
    k0_pay1 g l9 (ix3 0 r j) = ∑ d : Fin 1536, g (ix2 r d) * l9 (ix2 d j) := by
  pointwise [k0_pay1]

theorem stepH_apply (p q : Vec Ideal S1x16x1536 .bf16) (h : Vec Ideal S16x1536 .bf16) (n : Fin 16) (d : Fin 1536) :
    stepH p q h (ix2 n d) = p (ix3 0 n d) * h (ix2 n d) + q (ix3 0 n d) := by
  pointwise [stepH]

theorem pay7_apply (l0 : Vec Ideal S1x256x768 .f32) (l1 : Vec Ideal S768x3072 .bf16) (tl : Vec Ideal S3x1536 .f32) (l2 : Vec Ideal S4x1536 .f32)
    (r : Fin 256) (d : Fin 1536) (W : ℕ → EReal) (h1 : ∀ i : Fin 3, tl (ix2 i d) = W i)
    (h2 : ∀ i : Fin 256, k0_pay5 l0 l1 (ix2 i d) = W (3 + i)) :
    k0_pay7 l0 l1 tl l2 (ix2 r d) = W r * l2 (ix2 0 d) + W (r + 1) * l2 (ix2 1 d) + W (r + 2) * l2 (ix2 2 d) + W (r + 3) * l2 (ix2 3 d) := by
  pointwise [k0_pay7]
  have e : ∀ (j : ℕ) (hj : j < 259), (if h : j < 3 then tl (ix2 ⟨j, h⟩ d) else k0_pay5 l0 l1 (ix2 ⟨j - 3, by omega⟩ d)) = W j := by
    intro j hj
    by_cases h : j < 3
    · rw [dif_pos h, h1]
    · rw [dif_neg h, h2]
      congr 1
      simp only
      omega
  have e0 := e r (by omega)
  have e1 := e (1 + r) (by omega)
  have e2 := e (2 + r) (by omega)
  rw [e0, e1, e2, h2, Nat.add_comm (r : ℕ) 1, Nat.add_comm (r : ℕ) 2, Nat.add_comm (r : ℕ) 3]

/-- The rounded-down quotient by 16 the kernel computes on words, at a lane number. -/
theorem floordiv16 : ∀ k : Fin 1024,
    (Scalar.select
        (IntOp.andi
          (IntOp.cmpi CmpIPredicate.ne
            (IntOp.subi (BitVec.setWidth 32 (IntOp.cmpi CmpIPredicate.sgt (BitVec.ofNat 32 ↑k) 0#32))
              (BitVec.setWidth 32 (IntOp.cmpi CmpIPredicate.slt (BitVec.ofNat 32 ↑k) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 ↑k) 16#32) 0#32))
        (IntOp.subi (IntOp.divsi ArithUnit.vector (BitVec.ofNat 32 ↑k) 16#32) 1#32)
        (IntOp.divsi ArithUnit.vector (BitVec.ofNat 32 ↑k) 16#32)) = BitVec.ofNat 32 ((k : ℕ) / 16) := by
  decide +kernel

theorem mask_apply (i : Fin 64) (k : Fin 1024) : maskOf (ix2 i k) = if (k : ℕ) / 16 = i then 1#1 else 0#1 := by
  pointwise [maskOf, k0_pay569, k0_pay566, k0_pay567, k0_pay568]
  rw [floordiv16 k]
  have hk : (k : ℕ) / 16 < 64 := by omega
  by_cases h : (k : ℕ) / 16 = i
  · rw [if_pos h, h]
    simp [IntOp.cmpi]
  · rw [if_neg h]
    have hne : BitVec.ofNat 32 ((k : ℕ) / 16) ≠ BitVec.ofNat 32 (i : ℕ) := by
      intro hc
      have := congrArg BitVec.toNat hc
      simp only [BitVec.toNat_ofNat] at this
      omega
    simp only [IntOp.cmpi]
    rw [beq_eq_false_iff_ne.mpr hne]
    rfl

/-- 64 rows of the block-diagonal product. -/
def blkMM (Cs : FVec Ideal S64x16 .bf16) (b : Vec Ideal S64x16x1536 .bf16)
    (h : Shape.Concatenates ((List.replicate 64 (⟨S64x16, Cs⟩ : (s : Shape) × (s.Idx → Ideal .bf16))).map (·.1)) S64x1024 1) : FVec Ideal S64x1536 .f32 :=
  matmul (φ₂ := .bf16) dot_S64x1024_S1024x1536_S64x1536_1_0_0_1_n_n none
    (select maskOf (concatenate S64x1024 1 (List.replicate 64 ⟨S64x16, Cs⟩) h) (broadcast S64x1024 (Scalar.ofBits .bf16 0x0000#16 : Ideal .bf16)))
    (shapeCast (α := Ideal .bf16) S1024x1536 b shapeCasts_S64x16x1536_S1024x1536) (constant S64x1536 .f32 0x00000000#32)

theorem catC : Shape.Concatenates (List.replicate 64 S64x16) S64x1024 1 :=
  concatenates_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x16_S64x1024_d1

theorem catC' (Cs : FVec Ideal S64x16 .bf16) :
    Shape.Concatenates ((List.replicate 64 (⟨S64x16, Cs⟩ : (s : Shape) × (s.Idx → Ideal .bf16))).map (·.1)) S64x1024 1 := by
  rw [List.map_replicate]; exact catC

theorem pay570_eq (C : FVec Ideal S256x16 .bf16) (b : Vec Ideal S64x16x1536 .bf16) :
    k0_pay570 C (iota .tc S64x1024 32 [1] iota_S64x1024_d1_w32) (iota .tc S64x1024 32 [0] iota_S64x1024_d0_w32) 16#32 k0_pay566 k0_pay567 k0_pay568 b
     = blkMM (extractStridedSlice S64x16 ![0, 0] C slices_S256x16_o0_0_S64x16) b (catC' _) := by
  sl_kernel_rfl

/-- A sum over the 1024 lanes that keeps one group of 16. -/
theorem sum_group (f : Fin 16 → EReal) (g : Fin 1024 → EReal) (i : Fin 64)
    (hg : ∀ k : Fin 1024, (k : ℕ) / 16 = i → g k = f ⟨(k : ℕ) % 16, Nat.mod_lt _ (by norm_num)⟩)
    (h0 : ∀ k : Fin 1024, (k : ℕ) / 16 ≠ i → g k = 0) : ∑ k, g k = ∑ n, f n := by
  rw [← (finProdFinEquiv (m := 64) (n := 16)).sum_comp g, Fintype.sum_prod_type, Finset.sum_eq_single i]
  · refine Finset.sum_congr rfl fun n _ => ?_
    have e1 : ((finProdFinEquiv (i, n) : Fin (64 * 16)) : ℕ) / 16 = i := by
      rw [finProdFinEquiv_apply_val]; simp only; omega
    rw [hg _ e1]
    congr 1
    apply Fin.ext
    simp only [finProdFinEquiv_apply_val]
    omega
  · intro q _ hq
    refine Finset.sum_eq_zero fun n _ => h0 _ ?_
    rw [finProdFinEquiv_apply_val]
    simp only
    intro hc
    apply hq
    apply Fin.ext
    omega
  · intro h; exact absurd (Finset.mem_univ i) h

theorem blkMM_apply (Cs : FVec Ideal S64x16 .bf16) (b : Vec Ideal S64x16x1536 .bf16) (h) (i : Fin 64) (d : Fin 1536) :
    blkMM Cs b h (ix2 i d) = ∑ n : Fin 16, Cs (ix2 i n) * b (ix3 i n d) := by
  unfold blkMM
  have hcat : ∀ k : Fin 1024, concatenate S64x1024 1 (List.replicate 64 ⟨S64x16, Cs⟩) h (ix2 i k) = Cs (ix2 i ⟨(k : ℕ) % 16, Nat.mod_lt _ (by norm_num)⟩) := by
    intro k
    refine concatenate_replicate_apply (t := S64x1024) 1 64 Cs h rfl (ix2 i k) _ rfl ?_
    intro a ha
    match a with
    | 0 => rfl
    | 1 => exact absurd rfl ha
  generalize concatenate S64x1024 1 (List.replicate 64 ⟨S64x16, Cs⟩) h = cat at *
  have hm := mask_apply i
  generalize maskOf = mk at *
  pointwise
  simp only [hcat, hm]
  refine sum_group (fun n => Cs (ix2 i n) * b (ix3 i n d)) _ i ?_ ?_
  · intro k hk
    have e : (⟨(k : ℕ) / 16, by omega⟩ : Fin 64) = i := Fin.ext hk
    rw [if_pos hk, e]
    rfl
  · intro k hk
    rw [if_neg hk]
    rfl

theorem pay571_eq (C : FVec Ideal S256x16 .bf16) (b : Vec Ideal S64x16x1536 .bf16) :
    k0_pay571 C (iota .tc S64x1024 32 [1] iota_S64x1024_d1_w32) (iota .tc S64x1024 32 [0] iota_S64x1024_d0_w32) 16#32 k0_pay566 k0_pay567 k0_pay568 b
     = blkMM (extractStridedSlice S64x16 ![64, 0] C slices_S256x16_o64_0_S64x16) b (catC' _) := by
  sl_kernel_rfl

theorem pay572_eq (C : FVec Ideal S256x16 .bf16) (b : Vec Ideal S64x16x1536 .bf16) :
    k0_pay572 C (iota .tc S64x1024 32 [1] iota_S64x1024_d1_w32) (iota .tc S64x1024 32 [0] iota_S64x1024_d0_w32) 16#32 k0_pay566 k0_pay567 k0_pay568 b
     = blkMM (extractStridedSlice S64x16 ![128, 0] C slices_S256x16_o128_0_S64x16) b (catC' _) := by
  sl_kernel_rfl

/-- The last stage before the output projection: the four blocks stacked, the skip and the gate. -/
def gateOf (z uc : FVec Ideal S256x1536 .f32) (m0 m1 m2 m3 : FVec Ideal S64x1536 .f32) (l8 : Vec Ideal S1x1536 .f32) : FVec Ideal S256x1536 .bf16 :=
  truncf .bf16 (mulf (addf (concatenate S256x1536 0 [⟨S64x1536, m0⟩, ⟨S64x1536, m1⟩, ⟨S64x1536, m2⟩, ⟨S64x1536, m3⟩]
      concatenates_S64x1536_S64x1536_S64x1536_S64x1536_S256x1536_d0)
      (mulf uc (broadcastTo S256x1536 (shapeCast S1x1536 l8 shapeCasts_S1x1536_S1x1536) broadcasts_S1x1536_S256x1536)))
    (mulf z (addf (mulf (broadcast S256x1536 (Scalar.ofBits .f32 0x3F000000#32 : Ideal .f32)) (tanh (mulf (broadcast S256x1536 (Scalar.ofBits .f32 0x3F000000#32 : Ideal .f32)) z)))
      (broadcast S256x1536 (Scalar.ofBits .f32 0x3F000000#32 : Ideal .f32))))) bitsLt_bf16_f32

theorem pay573_eq (z uc : FVec Ideal S256x1536 .f32) (C : FVec Ideal S256x16 .bf16) (m0 m1 m2 : FVec Ideal S64x1536 .f32) (b : Vec Ideal S64x16x1536 .bf16) (l8 : Vec Ideal S1x1536 .f32) :
    k0_pay573 z uc C maskOf m0 m1 m2 b l8
     = gateOf z uc m0 m1 m2 (blkMM (extractStridedSlice S64x16 ![192, 0] C slices_S256x16_o192_0_S64x16) b (catC' _)) l8 := by
  sl_kernel_rfl

theorem gateOf_apply (z uc : FVec Ideal S256x1536 .f32) (m0 m1 m2 m3 : FVec Ideal S64x1536 .f32) (l8 : Vec Ideal S1x1536 .f32)
    (Y : ℕ → EReal) (d : Fin 1536) (h0 : ∀ i : Fin 64, m0 (ix2 i d) = Y i) (h1 : ∀ i : Fin 64, m1 (ix2 i d) = Y (64 + i))
    (h2 : ∀ i : Fin 64, m2 (ix2 i d) = Y (128 + i)) (h3 : ∀ i : Fin 64, m3 (ix2 i d) = Y (192 + i)) (r : Fin 256) :
    gateOf z uc m0 m1 m2 m3 l8 (ix2 r d) = (Y r + uc (ix2 r d) * l8 (ix2 0 d)) * silu (z (ix2 r d)) := by
  rw [← silu_kernel]
  pointwise [gateOf]
  congr 2
  have e : ∀ {f : Fin 64 → EReal} {q : ℕ} (i : Fin 64), (∀ i : Fin 64, f i = Y (q + i)) → q + (i : ℕ) = r → f i = Y r := by
    intro f q i hf h
    rw [hf, h]
  by_cases c0 : (r : ℕ) < 64
  · rw [dif_pos c0]; exact h0 _
  rw [dif_neg c0]
  by_cases c1 : (r : ℕ) - 64 < 64
  · rw [dif_pos c1]; exact e _ h1 (by simp only; omega)
  rw [dif_neg c1]
  by_cases c2 : (r : ℕ) - 64 - 64 < 64
  · rw [dif_pos c2]; exact e _ h2 (by simp only; omega)
  rw [dif_neg c2]; exact e _ h3 (by simp only; omega)

end Cert.KernelIdeal.Chunk

end
-- ==== Proof.K.Reads.lean ====
/- The body's loads and stores read back at an index. -/
module

public import proofs.«01_k».proof.Proof.K.RunEq
public import proofs.«01_k».proof.Proof.K.Pay
public import Idealize.ShloMosaic.Lib.Pipeline.ReadBack
public import Idealize.ShloMosaic.Lib.WholeRead
public import Idealize.ShloMosaic.Lib.Pipeline.ValueKit.Tiles
public import Idealize.ShloMosaic.Lib.Pipeline.ValueKit.Acc

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen Cert.Mamba

/-- The first input's block loaded whole is the block. -/
theorem wholeX_eq (v : Memref sig .tc .vmem S1x256x768 .f32) (hv : v.IsWhole) (X : Vec Ideal S1x256x768 .f32) : wholeX v hv X = X := by
  unfold wholeX
  rw [View.readAt_eq_ld, hv.read_unread]
  exact View.ld_unit_lit' _ _ (by decide)

/-- A two-axis block loaded whole is the block. -/
theorem whole2_eq {a b : ℕ} {e : EltTy} (v : Memref sig .tc .vmem ⟨2, ![a, b]⟩ e) (hv : v.IsWhole) (inb)
    (X : (⟨2, ![a, b]⟩ : Shape).Idx → Elt Ideal e) : whole2 v hv inb X = X := by
  unfold whole2
  rw [View.readAt_eq_ld, hv.read_unread]
  refine View.ld_unit_lit' _ _ ?_
  intro i
  match i with
  | 0 => rfl
  | 1 => rfl

theorem rowOf_apply (v : Memref sig .tc .vmem S256x16x1536 .bf16) (X : Vec Ideal S256x16x1536 .bf16) (t : ℕ) (h : t < 256) (n : Fin 16) (d : Fin 1536) :
    rowOf v X t h (ix3 0 n d) = X (ix3 ⟨t, h⟩ n d) := by
  unfold rowOf
  rw [View.readCov_fill (v := v.view) (h := by decide)]
  refine View.ld_unit_apply_of (e := .bf16) X _ _ _ _ _ ?_
  intro a
  match a with
  | 0 => rfl
  | 1 => exact (Nat.zero_add _).symm
  | 2 => exact (Nat.zero_add _).symm

theorem stA_apply (v : Memref sig .tc .vmem S16x1536 .bf16) (n : Fin 16) (d : Fin 1536) : stA (F := Ideal) v (ix2 n d) = 0 := by
  unfold stA
  rw [View.readCov_fill (v := v.view) (h := by decide)]
  rw [View.ld_unit_apply_of (e := .bf16) _ _ _ _ _ (ix2 n d) (by
    intro a
    match a with
    | 0 => exact (Nat.zero_add _).symm
    | 1 => exact (Nat.zero_add _).symm)]
  pointwise [k0_pay2]

theorem tailA_apply (v : Memref sig .tc .vmem S8x1536 .f32) (i : Fin 3) (d : Fin 1536) : tailA (F := Ideal) v (ix2 i d) = 0 := by
  unfold tailA
  rw [View.readCov_fill (v := v.view) (h := by decide)]
  rw [View.ld_unit_apply_of (e := .f32) _ _ _ _ _ (ix2 ⟨i, by omega⟩ d) (by
    intro a
    match a with
    | 0 => exact (Nat.zero_add _).symm
    | 1 => exact (Nat.zero_add _).symm)]
  pointwise [k0_pay3]

theorem tailB_apply (v : Memref sig .tc .vmem S8x1536 .f32) (hv : v.IsWhole) (X : Vec Ideal S8x1536 .f32) (i : Fin 3) (d : Fin 1536) :
    tailB v hv X (ix2 i d) = X (ix2 ⟨i, by omega⟩ d) := by
  unfold tailB
  rw [View.readAt_eq_ld, hv.read_unread]
  refine View.ld_unit_apply_of (e := .f32) X _ _ _ _ _ ?_
  intro a
  match a with
  | 0 => exact (Nat.zero_add _).symm
  | 1 => exact (Nat.zero_add _).symm

theorem hAt_succ (p q : ∀ t, t < 256 → Vec Ideal S1x16x1536 .bf16) (h0 : Vec Ideal S16x1536 .bf16) (t : ℕ) (h : t + 1 ≤ 256) :
    hAt p q h0 (t + 1) h = stepH (p t h) (q t h) (hAt p q h0 t (Nat.le_of_succ_le h)) := rfl

theorem histL_succ (p q : ∀ t, t < 256 → Vec Ideal S1x16x1536 .bf16) (h0 : Vec Ideal S16x1536 .bf16) (t : ℕ) (h : t + 1 ≤ 256) :
    histL p q h0 (t + 1) h = ⟨Rect.unit (s := S256x16x1536) ![t, 0, 0] S1x16x1536.size (inbRow t h),
        shapeCast S1x16x1536 (hAt p q h0 (t + 1) h) shapeCasts_S16x1536_S1x16x1536⟩ :: histL p q h0 t (Nat.le_of_succ_le h) := rfl

theorem hAt_congr (p q : ∀ t, t < 256 → Vec Ideal S1x16x1536 .bf16) (h0 : Vec Ideal S16x1536 .bf16) {t t' : ℕ} (e : t = t') (h : t ≤ 256) (h' : t' ≤ 256) :
    hAt p q h0 t h = hAt p q h0 t' h' := by
  subst e; rfl

/-- The history as one array: row `t` is the state after step `t`. -/
def histArr (p q : ∀ t, t < 256 → Vec Ideal S1x16x1536 .bf16) (h0 : Vec Ideal S16x1536 .bf16) (y : S256x16x1536.Idx) : EReal :=
  hAt p q h0 ((y 0 : ℕ) + 1) (Nat.succ_le_of_lt (y 0).isLt) (ix2 (y 1) (y 2))

theorem histL_piece (p q : ∀ t, t < 256 → Vec Ideal S1x16x1536 .bf16) (h0 : Vec Ideal S16x1536 .bf16) (t : ℕ) (h : t ≤ 256) :
    ∀ pc ∈ histL p q h0 t h, ∀ x : pc.1.shape.Idx, pc.2 x = histArr p q h0 (pc.1.emb x) := by
  induction t with
  | zero => intro pc hpc; exact absurd hpc List.not_mem_nil
  | succ t ih =>
    intro pc hpc
    rw [histL_succ] at hpc
    rcases List.mem_cons.mp hpc with rfl | hpc
    · intro x
      have e0 : (((Rect.unit (s := S256x16x1536) ![t, 0, 0] S1x16x1536.size (inbRow t h)).emb x) 0 : ℕ) = t := by
        have := Rect.idx_unit_val (s := S256x16x1536) ![t, 0, 0] S1x16x1536.size (inbRow t h) x 0
        have hx : ((x 0 : Fin 1) : ℕ) < 1 := (x 0).isLt
        have hx0 : ((x 0 : Fin 1) : ℕ) = 0 := by omega
        exact this.trans (by rw [hx0]; rfl)
      have e1 : ((Rect.unit (s := S256x16x1536) ![t, 0, 0] S1x16x1536.size (inbRow t h)).emb x) 1 = x 1 :=
        Fin.ext ((Rect.idx_unit_val (s := S256x16x1536) ![t, 0, 0] S1x16x1536.size (inbRow t h) x 1).trans (Nat.zero_add _))
      have e2 : ((Rect.unit (s := S256x16x1536) ![t, 0, 0] S1x16x1536.size (inbRow t h)).emb x) 2 = x 2 :=
        Fin.ext ((Rect.idx_unit_val (s := S256x16x1536) ![t, 0, 0] S1x16x1536.size (inbRow t h) x 2).trans (Nat.zero_add _))
      unfold histArr
      have e := hAt_congr p q h0 (congrArg (· + 1) e0) (Nat.succ_le_of_lt (Fin.isLt _)) h
      rw [e1, e2]
      refine Eq.trans ?_ (congrFun e (ix2 (x 1) (x 2))).symm
      generalize hAt p q h0 (t + 1) h = X
      pointwise
    · exact ih _ pc hpc

theorem histL_mem (p q : ∀ t, t < 256 → Vec Ideal S1x16x1536 .bf16) (h0 : Vec Ideal S16x1536 .bf16) (t : ℕ) (h : t ≤ 256) (y : S256x16x1536.Idx) (hy : (y 0 : ℕ) < t) :
    ∃ pc ∈ histL p q h0 t h, y ∈ pc.1.set := by
  induction t with
  | zero => omega
  | succ t ih =>
    rw [histL_succ]
    by_cases e : (y 0 : ℕ) = t
    · refine ⟨_, List.mem_cons_self, ?_⟩
      rw [Rect.mem_set_unit]
      intro a
      match a with
      | 0 => show t ≤ (y 0 : ℕ) ∧ (y 0 : ℕ) < t + 1; omega
      | 1 => exact ⟨Nat.zero_le _, (Nat.zero_add 16).symm ▸ (y 1).isLt⟩
      | 2 => exact ⟨Nat.zero_le _, (Nat.zero_add 1536).symm ▸ (y 2).isLt⟩
    · obtain ⟨pc, hpc, hm⟩ := ih (Nat.le_of_succ_le h) (by omega)
      exact ⟨pc, List.mem_cons_of_mem _ hpc, hm⟩

theorem blkOf_apply (v : Memref sig .tc .vmem S256x16x1536 .bf16) (p q : ∀ t, t < 256 → Vec Ideal S1x16x1536 .bf16) (h0 : Vec Ideal S16x1536 .bf16)
    (t : ℕ) (h : t + 64 ≤ 256) (i : Fin 64) (n : Fin 16) (d : Fin 1536) :
    blkOf v (histL p q h0 256 le_rfl) t h (ix3 i n d) = hAt p q h0 (t + i + 1) (by omega) (ix2 n d) := by
  unfold blkOf
  rw [View.readCov_eq_canon']
  have e : (Rect.unit (s := S256x16x1536) ![t, 0, 0] S64x16x1536.size (inbBlk t h)).toLoadRect.idx (ix3 i n d) = ix3 ⟨t + i, by omega⟩ n d := by
    funext a
    apply Fin.ext
    refine (Rect.idx_unit_val (s := S256x16x1536) ![t, 0, 0] S64x16x1536.size (inbBlk t h) (ix3 i n d) a).trans ?_
    match a with
    | 0 => rfl
    | 1 => exact Nat.zero_add _
    | 2 => exact Nat.zero_add _
  show View.canon _ _ = _
  rw [e, View.canon_apply_of_pieces (histArr p q h0) _ (histL_piece p q h0 256 le_rfl) _ (histL_mem p q h0 256 le_rfl _ (by show t + (i : ℕ) < 256; omega))]
  rfl

end Cert.KernelIdeal.Chunk

end
-- ==== Proof.K.ChunkVal.lean ====
/- One grid point's value: given blocks that hold the chunk's inputs, the tail rows and the state the point before
   left, the body computes the block's output, state and tail of the mathematical block. -/
module

public import proofs.«01_k».proof.Proof.K.Reads

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen Cert.Mamba

/-- What the ten input blocks of chunk `c` of sequence `b` hold. -/
structure Blk (P : Par) (b : Fin 2) (c : ℕ) (x0 : Vec Ideal S1x256x768 .f32) (x1 : Vec Ideal S768x3072 .bf16) (x2 : Vec Ideal S4x1536 .f32)
    (x3 : Vec Ideal S1x1536 .f32) (x4 : Vec Ideal S1536x384 .bf16) (x5 : Vec Ideal S128x1536 .bf16) (x6 : Vec Ideal S1x1536 .f32)
    (x7 : Vec Ideal S16x1536 .f32) (x8 : Vec Ideal S1x1536 .f32) (x9 : Vec Ideal S1536x768 .bf16) : Prop where
  h0 : ∀ (r : Fin 256) (k : Fin 768), x0 (ix3 0 r k) = P.X b (256 * c + r) k
  h1 : ∀ (k : Fin 768) (e : Fin 3072), x1 (ix2 k e) = P.Win e k
  h2 : ∀ (k : Fin 4) (d : Fin 1536), x2 (ix2 k d) = P.cw d k
  h3 : ∀ d : Fin 1536, x3 (ix2 0 d) = P.cb d
  h4dt : ∀ (d : Fin 1536) (j : Fin 48), x4 (ix2 d ⟨j, by omega⟩) = P.Wx ⟨j, by omega⟩ d
  h4B : ∀ (d : Fin 1536) (j : Fin 16), x4 (ix2 d ⟨128 + j, by omega⟩) = P.Wx ⟨48 + j, by omega⟩ d
  h4C : ∀ (d : Fin 1536) (j : Fin 16), x4 (ix2 d ⟨256 + j, by omega⟩) = P.Wx ⟨64 + j, by omega⟩ d
  h5 : ∀ (r : Fin 48) (d : Fin 1536), x5 (ix2 ⟨r, by omega⟩ d) = P.Wdt d r
  h5z : ∀ (r : Fin 80) (d : Fin 1536), x5 (ix2 ⟨48 + r, by omega⟩ d) = 0
  h6 : ∀ d : Fin 1536, x6 (ix2 0 d) = P.bdt d
  h7 : ∀ (n : Fin 16) (d : Fin 1536), x7 (ix2 n d) = P.alog d n
  h8 : ∀ d : Fin 1536, x8 (ix2 0 d) = P.D d
  h9 : ∀ (d : Fin 1536) (j : Fin 768), x9 (ix2 d j) = P.Wout j d

/-- Rows `q` to `q + 63` of the output weights. -/
theorem slice_apply (C : FVec Ideal S256x16 .bf16) (q : ℕ) (h) (i : Fin 64) (n : Fin 16) (hq : q + (i : ℕ) < 256) :
    extractStridedSlice S64x16 ![q, 0] C h (ix2 i n) = C (ix2 ⟨q + i, hq⟩ n) := by
  refine congrArg C (funext fun a => Fin.ext ?_)
  match a with
  | 0 => rfl
  | 1 => exact Nat.zero_add _

section
variable {P : Par} {b : Fin 2} {c : ℕ} {x0 : Vec Ideal S1x256x768 .f32} {x1 : Vec Ideal S768x3072 .bf16} {x2 : Vec Ideal S4x1536 .f32}
  {x3 : Vec Ideal S1x1536 .f32} {x4 : Vec Ideal S1536x384 .bf16} {x5 : Vec Ideal S128x1536 .bf16} {x6 : Vec Ideal S1x1536 .f32}
  {x7 : Vec Ideal S16x1536 .f32} {x8 : Vec Ideal S1x1536 .f32} {x9 : Vec Ideal S1536x768 .bf16}
  (H : Blk P b c x0 x1 x2 x3 x4 x5 x6 x7 x8 x9)

include H

theorem pay4_val (r : Fin 256) (e : Fin 3072) : k0_pay4 x0 x1 (ix2 r e) = U P b (256 * c + r) e := by
  rw [pay4_apply]
  refine Finset.sum_congr rfl fun k _ => ?_
  rw [H.h0, H.h1]

theorem pay5_val (r : Fin 256) (d : Fin 1536) : k0_pay5 x0 x1 (ix2 r d) = uR P b (256 * c + r) d := by
  rw [pay5_apply, pay4_val H]; rfl

theorem pay6_val (r : Fin 256) (d : Fin 1536) : k0_pay6 x0 x1 (ix2 r d) = zR P b (256 * c + r) d := by
  rw [pay6_apply, pay4_val H]; rfl

/-- The tail the point leaves. -/
theorem pay8_val (i : Fin 3) (d : Fin 1536) : k0_pay8 x0 x1 (ix2 i d) = up P b (256 * (c + 1) + i) d := by
  rw [pay8_apply, pay5_val H]
  unfold up
  rw [if_neg (by omega)]
  congr 1
  simp only
  omega

variable {tl : Vec Ideal S3x1536 .f32} (HT : ∀ (i : Fin 3) (d : Fin 1536), tl (ix2 i d) = up P b (256 * c + i) d)
include HT

theorem acc_val (r : Fin 256) (d : Fin 1536) : k0_pay7 x0 x1 tl x2 (ix2 r d) = cv P b (256 * c + r) d := by
  rw [pay7_apply x0 x1 tl x2 r d (fun j => up P b (256 * c + j) d) (fun i => HT i d) ?_]
  · rw [H.h2, H.h2, H.h2, H.h2]; rfl
  · intro i
    rw [pay5_val H]
    unfold up
    rw [if_neg (by omega)]
    congr 1
    omega

theorem uc_val (r : Fin 256) (d : Fin 1536) : k0_pay10 (k0_pay7 x0 x1 tl x2) (k0_pay9 x3) (ix2 r d) = uc P b (256 * c + r) d := by
  rw [pay10_apply, acc_val H HT, H.h3]; rfl

theorem xp_val (r : Fin 256) (e : Fin 384) (e' : Fin 80) (he : ∀ d, x4 (ix2 d e) = P.Wx e' d) :
    k0_pay11 (k0_pay7 x0 x1 tl x2) (k0_pay9 x3) x4 (ix2 r e) = xp P b (256 * c + r) e' := by
  rw [pay11_apply]
  refine Finset.sum_congr rfl fun d _ => ?_
  rw [uc_val H HT, he]

theorem dt_val (r : Fin 256) (d : Fin 1536) :
    k0_pay12 (k0_pay7 x0 x1 tl x2) (k0_pay9 x3) x4 x5 x6 (ix2 r d) = dt P b (256 * c + r) d := by
  rw [pay12_apply, H.h6]
  unfold dt
  congr 2
  rw [Fin.sum_univ_add (a := 48) (b := 80)]
  rw [Finset.sum_eq_zero (s := (Finset.univ : Finset (Fin 80)))]
  · rw [add_zero]
    refine Finset.sum_congr rfl fun e _ => ?_
    refine congrArg₂ (· * ·) ?_ (H.h5 e d)
    exact xp_val H HT r _ _ fun d => H.h4dt d e
  · intro e _
    refine (congrArg₂ (· * ·) rfl (H.h5z e d)).trans ?_
    exact mul_zero _

theorem B_val (r : Fin 256) (n : Fin 16) : k0_pay13 (k0_pay7 x0 x1 tl x2) (k0_pay9 x3) x4 (ix2 r n) = Bm P b (256 * c + r) n := by
  rw [pay13_apply, xp_val H HT r _ _ fun d => H.h4B d n]; rfl

theorem C_val (r : Fin 256) (n : Fin 16) : k0_pay565 (k0_pay14 (k0_pay7 x0 x1 tl x2) (k0_pay9 x3) x4) (ix2 r n) = Cm P b (256 * c + r) n := by
  rw [pay14_apply, xp_val H HT r _ _ fun d => H.h4C d n]; rfl

theorem da_val (r : Fin 256) (n : Fin 16) (d : Fin 1536) :
    daOf (k0_pay7 x0 x1 tl x2) x3 x4 x5 x6 x7 (ix3 r n d) = dA P b (256 * c + r) d n := by
  unfold daOf
  rw [pay16_apply, dt_val H HT, H.h7]; rfl

theorem dbu_val (r : Fin 256) (n : Fin 16) (d : Fin 1536) :
    dbuOf (k0_pay7 x0 x1 tl x2) x3 x4 x5 x6 (ix3 r n d) = dBu P b (256 * c + r) d n := by
  unfold dbuOf
  rw [pay17_apply, dt_val H HT, uc_val H HT, B_val H HT]; rfl

variable {h0 : Vec Ideal S16x1536 .bf16} (HS : ∀ (n : Fin 16) (d : Fin 1536), h0 (ix2 n d) = hS P b (256 * c) d n)
include HS

/-- The state before step `t` of the chunk. -/
theorem h_val (v2 v3 : Memref sig .tc .vmem S256x16x1536 .bf16) (t : ℕ) (h : t ≤ 256) (n : Fin 16) (d : Fin 1536) :
    hOf v2 v3 (daOf (k0_pay7 x0 x1 tl x2) x3 x4 x5 x6 x7) (dbuOf (k0_pay7 x0 x1 tl x2) x3 x4 x5 x6) h0 t h (ix2 n d) = hS P b (256 * c + t) d n := by
  unfold hOf
  induction t with
  | zero => exact HS n d
  | succ t ih =>
    rw [hAt_succ, stepH_apply, rowOf_apply, rowOf_apply, ih, da_val H HT, dbu_val H HT]
    rfl

/-- One block of 64 rows of the scan's result. -/
theorem blk_val (v2 v3 v4 : Memref sig .tc .vmem S256x16x1536 .bf16) (t : ℕ) (h : t + 64 ≤ 256) (Cs : FVec Ideal S64x16 .bf16)
    (hC : ∀ (i : Fin 64) (n : Fin 16), Cs (ix2 i n) = Cm P b (256 * c + (t + i)) n) (hc) (i : Fin 64) (d : Fin 1536) :
    blkMM Cs (blkOf v4 (histOf v2 v3 (daOf (k0_pay7 x0 x1 tl x2) x3 x4 x5 x6 x7) (dbuOf (k0_pay7 x0 x1 tl x2) x3 x4 x5 x6) h0) t h) hc (ix2 i d)
      = yS P b (256 * c + (t + i)) d := by
  rw [blkMM_apply]
  refine Finset.sum_congr rfl fun n _ => ?_
  unfold histOf
  rw [blkOf_apply, hC, mul_comm]
  refine congrArg (· * _) ?_
  exact h_val H HT HS v2 v3 (t + i + 1) (by omega) n d

/-- The block the point writes. -/
theorem out_val (v2 v3 v4 : Memref sig .tc .vmem S256x16x1536 .bf16) (p0 p1 p2 p3) (r : Fin 256) (j : Fin 768) :
    outOf x0 x1 (k0_pay7 x0 x1 tl x2) x3 x4 x8 x9
      (blkOf v4 (histOf v2 v3 (daOf (k0_pay7 x0 x1 tl x2) x3 x4 x5 x6 x7) (dbuOf (k0_pay7 x0 x1 tl x2) x3 x4 x5 x6) h0) 0 p0)
      (blkOf v4 (histOf v2 v3 (daOf (k0_pay7 x0 x1 tl x2) x3 x4 x5 x6 x7) (dbuOf (k0_pay7 x0 x1 tl x2) x3 x4 x5 x6) h0) 64 p1)
      (blkOf v4 (histOf v2 v3 (daOf (k0_pay7 x0 x1 tl x2) x3 x4 x5 x6 x7) (dbuOf (k0_pay7 x0 x1 tl x2) x3 x4 x5 x6) h0) 128 p2)
      (blkOf v4 (histOf v2 v3 (daOf (k0_pay7 x0 x1 tl x2) x3 x4 x5 x6 x7) (dbuOf (k0_pay7 x0 x1 tl x2) x3 x4 x5 x6) h0) 192 p3)
      (ix3 0 r j) = outS P b (256 * c + r) j := by
  unfold outOf
  rw [pay1_apply]
  refine Finset.sum_congr rfl fun d _ => ?_
  rw [H.h9]
  refine congrArg (· * _) ?_
  rw [pay573_eq, pay570_eq, pay571_eq, pay572_eq]
  have hC := C_val H HT
  generalize k0_pay565 (k0_pay14 (k0_pay7 x0 x1 tl x2) (k0_pay9 x3) x4) = C at *
  rw [gateOf_apply _ _ _ _ _ _ x8 (fun q => yS P b (256 * c + q) d) d ?_ ?_ ?_ ?_ r]
  · rw [uc_val H HT, pay6_val H, H.h8]; rfl
  · intro i
    refine (blk_val H HT HS v2 v3 v4 0 p0 _ (fun i n => (slice_apply C 0 _ i n (by omega)).trans (hC _ n)) (catC' _) i d).trans ?_
    rw [Nat.zero_add (i : ℕ)]
  · intro i
    exact blk_val H HT HS v2 v3 v4 64 p1 _ (fun i n => (slice_apply C 64 _ i n (by omega)).trans (hC _ n)) (catC' _) i d
  · intro i
    exact blk_val H HT HS v2 v3 v4 128 p2 _ (fun i n => (slice_apply C 128 _ i n (by omega)).trans (hC _ n)) (catC' _) i d
  · intro i
    exact blk_val H HT HS v2 v3 v4 192 p3 _ (fun i n => (slice_apply C 192 _ i n (by omega)).trans (hC _ n)) (catC' _) i d

end

end Cert.KernelIdeal.Chunk

end
-- ==== Proof.K.Point.lean ====
/- What each case of the body leaves at a grid point, as the mathematical block's values. -/
module

public import proofs.«01_k».proof.Proof.K.ChunkVal

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen Cert.Mamba

variable (c : Dev nD) (i : grid0.Coords) (arg2 : Memref sig .tc .vmem S1x256x768 .f32) (harg2 : arg2.IsWhole) (arg3 : Memref sig .tc .vmem S768x3072 .bf16) (harg3 : arg3.IsWhole) (arg4 : Memref sig .tc .vmem S4x1536 .f32) (harg4 : arg4.IsWhole) (arg5 : Memref sig .tc .vmem S1x1536 .f32) (harg5 : arg5.IsWhole) (arg6 : Memref sig .tc .vmem S1536x384 .bf16) (harg6 : arg6.IsWhole) (arg7 : Memref sig .tc .vmem S128x1536 .bf16) (harg7 : arg7.IsWhole) (arg8 : Memref sig .tc .vmem S1x1536 .f32) (harg8 : arg8.IsWhole) (arg9 : Memref sig .tc .vmem S16x1536 .f32) (harg9 : arg9.IsWhole) (arg10 : Memref sig .tc .vmem S1x1536 .f32) (harg10 : arg10.IsWhole) (arg11 : Memref sig .tc .vmem S1536x768 .bf16) (harg11 : arg11.IsWhole) (arg12 : Memref sig .tc .vmem S1x256x768 .f32) (harg12 : arg12.IsWhole) (arg13 : Memref sig .tc .vmem S16x1536 .bf16) (harg13 : arg13.IsWhole) (arg14 : Memref sig .tc .vmem S8x1536 .f32) (harg14 : arg14.IsWhole) (arg15 : Memref sig .tc .vmem S256x16x1536 .bf16) (harg15 : arg15.IsWhole) (arg16 : Memref sig .tc .vmem S256x16x1536 .bf16) (harg16 : arg16.IsWhole) (arg17 : Memref sig .tc .vmem S256x16x1536 .bf16) (harg17 : arg17.IsWhole)
variable {P : Par} {b : Fin 2} {ch : ℕ} {x0 : Vec Ideal S1x256x768 .f32} {x1 : Vec Ideal S768x3072 .bf16} {x2 : Vec Ideal S4x1536 .f32}
  {x3 : Vec Ideal S1x1536 .f32} {x4 : Vec Ideal S1536x384 .bf16} {x5 : Vec Ideal S128x1536 .bf16} {x6 : Vec Ideal S1x1536 .f32}
  {x7 : Vec Ideal S16x1536 .f32} {x8 : Vec Ideal S1x1536 .f32} {x9 : Vec Ideal S1536x768 .bf16}
  {xs0 : Vec Ideal S16x1536 .bf16} {xs1 : Vec Ideal S8x1536 .f32}

/-- What the tuple of a point holds: the output block, the state after the chunk, the tail for the next one. -/
structure Post (P : Par) (b : Fin 2) (ch : ℕ) (o : Vec Ideal S1x256x768 .f32) (s : Vec Ideal S16x1536 .bf16) (l : Vec Ideal S8x1536 .f32) : Prop where
  out : ∀ (r : Fin 256) (j : Fin 768), o (ix3 0 r j) = outS P b (256 * ch + r) j
  st : ∀ (n : Fin 16) (d : Fin 1536), s (ix2 n d) = hS P b (256 * (ch + 1)) d n
  tl : ∀ (i : Fin 3) (d : Fin 1536), l (ix2 ⟨i, by omega⟩ d) = up P b (256 * (ch + 1) + i) d

/-- The tail's first three rows, at an index of the scratch. -/
theorem tail_emb (i : Fin 3) (d : Fin 1536) :
    (ix2 ⟨i, by omega⟩ d : S8x1536.Idx) = (Rect.unit (s := S8x1536) ![0, 0] S3x1536.size inb_S8x1536_S3x1536_0_0).emb (ix2 i d) := by
  funext a
  apply Fin.ext
  refine Eq.trans ?_ (Rect.idx_unit_val (s := S8x1536) ![0, 0] S3x1536.size inb_S8x1536_S3x1536_0_0 (ix2 i d) a).symm
  match a with
  | 0 => exact (Nat.zero_add _).symm
  | 1 => exact (Nat.zero_add _).symm

/-- A tail store over anything, read back at its rows. -/
theorem tail_write (v : View sig .tc .vmem S8x1536 .f32) (f : v.ty.Contents (Elt Ideal)) (w : Vec Ideal S3x1536 .f32) (L : List (View.Piece (Elt Ideal) S8x1536 .f32)) (i : Fin 3) (d : Fin 1536) :
    v.read (Elt Ideal) (v.writes (Elt Ideal) f (⟨Rect.unit (s := S8x1536) ![0, 0] S3x1536.size inb_S8x1536_S3x1536_0_0, w⟩ :: L)) (ix2 ⟨i, by omega⟩ d) = w (ix2 i d) := by
  exact View.read_writes_cons_hit v f (Rect.unit (s := S8x1536) ![0, 0] S3x1536.size inb_S8x1536_S3x1536_0_0) w L (ix2 i d) _ (tail_emb i d).symm

theorem mul_succ' (ch : ℕ) : 256 * (ch + 1) = 256 * ch + 256 := by omega

theorem cast_self2 (X : Vec Ideal S16x1536 .bf16) (n : Fin 16) (d : Fin 1536) : shapeCast S16x1536 X shapeCasts_S16x1536_S16x1536 (ix2 n d) = X (ix2 n d) := by
  pointwise

theorem up_zero (P : Par) (b : Fin 2) (i : Fin 3) (d : Fin 1536) : up P b (256 * 0 + i) d = 0 := by
  unfold up; rw [if_pos (by omega)]

/-- Case A of the body. -/
theorem post_A (hc0 : cond0_0 i) (H : Blk P b 0 x0 x1 x2 x3 x4 x5 x6 x7 x8 x9) :
    Post P b 0 (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9) (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9) := by
  constructor
  · intro r j
    unfold out0_A_10
    rw [View.read_writes_junk_eq_canon, out_A, View.canon_cons_unit_lit' (h := by decide)]
    simp only [wholeX_eq, whole2_eq]
    exact out_val H (fun i d => (tailA_apply arg14 i d).trans (up_zero P b i d).symm) (fun n d => stA_apply arg13 n d) arg15 arg16 arg17 _ _ _ _ r j
  · intro n d
    unfold sout0_A_0
    rw [View.read_writes_junk_eq_canon, st_A, View.canon_cons_unit_lit' (h := by decide)]
    simp only [wholeX_eq, whole2_eq]
    rw [cast_self2, mul_succ']
    exact h_val H (fun i d => (tailA_apply arg14 i d).trans (up_zero P b i d).symm) (fun n d => stA_apply arg13 n d) arg15 arg16 256 le_rfl n d
  · intro i d
    unfold sout0_A_1
    rw [tl_A, tail_write]
    simp only [wholeX_eq, whole2_eq]
    exact pay8_val H i d

/-- Case B of the body. -/
theorem post_B (hc0 : ¬cond0_0 i) (H : Blk P b ch x0 x1 x2 x3 x4 x5 x6 x7 x8 x9)
    (HS : ∀ (n : Fin 16) (d : Fin 1536), xs0 (ix2 n d) = hS P b (256 * ch) d n) (HT : ∀ (i : Fin 3) (d : Fin 1536), xs1 (ix2 ⟨i, by omega⟩ d) = up P b (256 * ch + i) d) :
    Post P b ch (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1) (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1) := by
  constructor
  · intro r j
    unfold out0_B_10
    rw [View.read_writes_junk_eq_canon, out_B, View.canon_cons_unit_lit' (h := by decide)]
    simp only [wholeX_eq, whole2_eq]
    exact out_val H (fun i d => (tailB_apply arg14 harg14 xs1 i d).trans (HT i d)) HS arg15 arg16 arg17 _ _ _ _ r j
  · intro n d
    unfold sout0_B_0
    rw [View.read_writes_junk_eq_canon, st_B, View.canon_cons_unit_lit' (h := by decide)]
    simp only [wholeX_eq, whole2_eq]
    rw [cast_self2, mul_succ']
    exact h_val H (fun i d => (tailB_apply arg14 harg14 xs1 i d).trans (HT i d)) HS arg15 arg16 256 le_rfl n d
  · intro i d
    unfold sout0_B_1
    rw [tl_B, tail_write]
    simp only [wholeX_eq, whole2_eq]
    exact pay8_val H i d

end Cert.KernelIdeal.Chunk

end
-- ==== Proof.Math.ParOf.lean ====
/- The block's arrays gathered from the ten argument buffers. -/
module

public import proofs.«01_k».proof.Proof.Math.Spec
public import Idealize.ShloMosaic.Lib.Routing.OpsSet
public import Idealize.ShloMosaic.Lib.Pointwise

@[expose] public section

open Idealize.ShloMosaic Idealize.ShloMosaic.Routing

namespace Cert.Mamba

noncomputable section

/-- The ten arrays as functions of their indices; the input past its last step is zero (never read). -/
def parOf (a0 : (shape3 2 2048 768).Idx → EReal) (a1 : (shape2 3072 768).Idx → EReal) (a2 : (shape2 1536 4).Idx → EReal)
    (a3 : (shape1 1536).Idx → EReal) (a4 : (shape2 80 1536).Idx → EReal) (a5 : (shape2 1536 48).Idx → EReal)
    (a6 : (shape1 1536).Idx → EReal) (a7 : (shape2 1536 16).Idx → EReal) (a8 : (shape1 1536).Idx → EReal)
    (a9 : (shape2 768 1536).Idx → EReal) : Par where
  X b t k := if h : t < 2048 then a0 (ix3 b ⟨t, h⟩ k) else 0
  Win e k := a1 (ix2 e k)
  cw d k := a2 (ix2 d k)
  cb d := a3 (ix1 d)
  Wx j d := a4 (ix2 j d)
  Wdt d r := a5 (ix2 d r)
  bdt d := a6 (ix1 d)
  alog d n := a7 (ix2 d n)
  D d := a8 (ix1 d)
  Wout j d := a9 (ix2 j d)

end

end Cert.Mamba
-- ==== Proof.Math.Scatter.lean ====
/- A block written into a larger array from one start index. -/
module

public import Idealize.ShloMosaic.Lib.Routing.OpsSet
public import Idealize.ShloMosaic.Lib.Routing.OpsPair
public import Idealize.ShloMosaic.Lib.Pointwise

@[expose] public section

open Idealize.ShloMosaic Idealize.ShloMosaic.Routing

namespace Cert.Mamba

/-- Where an update of a block lands when the one start index moves the columns. -/
theorem lands_cols {R C r q : Nat} (d : ScatterDims (shape2 R C) (shape1 1) (shape2 r q)) (huw : d.updateWindowDims = [0, 1])
    (hiw : d.insertedWindowDims = []) (hsd : d.scatterDimsToOperandDims = [1]) (idx : IVec (shape1 1) 32) (k : Nat)
    (hidx : (idx (ValueIdx.ix1 0)).toInt = (k : Int)) (i : Fin r) (j : Fin q) (a : Fin R) (b : Fin C) :
    d.resultIdx? (ValueIdx.ix2 i j) idx = some (ValueIdx.ix2 a b) ↔ i.val = a.val ∧ k + j.val = b.val := by
  have hkept : d.sKept = [0, 1] := by
    show (shape2 R C).kept d.insertedWindowDims = _
    rw [hiw]; rfl
  have hw0 : d.window (ValueIdx.ix2 i j) 0 = i.val := by
    unfold ScatterDims.window
    rw [dif_pos (by rw [hkept]; exact (by decide : (0 : Fin 2) ∈ ([0, 1] : List (Fin 2))))]
    have q : ∀ X : Fin 2, X = 0 → (ValueIdx.ix2 i j X).val = i.val := fun X h => by subst h; rfl
    refine q _ ?_
    simp only [huw, hkept]
    rfl
  have hw1 : d.window (ValueIdx.ix2 i j) 1 = j.val := by
    unfold ScatterDims.window
    rw [dif_pos (by rw [hkept]; exact (by decide : (1 : Fin 2) ∈ ([0, 1] : List (Fin 2))))]
    have q : ∀ X : Fin 2, X = 1 → (ValueIdx.ix2 i j X).val = j.val := fun X h => by subst h; rfl
    refine q _ ?_
    simp only [huw, hkept]
    rfl
  have hs0 : d.start (ValueIdx.ix2 i j) idx 0 = 0 := by
    unfold ScatterDims.start
    rw [dif_neg (by rw [hsd]; exact (by decide : (0 : Fin 2) ∉ ([1] : List (Fin 2))))]
  have hs1 : d.start (ValueIdx.ix2 i j) idx 1 = (k : Int) := by
    unfold ScatterDims.start
    have hm : (1 : Fin 2) ∈ d.scatterDimsToOperandDims := by rw [hsd]; exact List.mem_singleton.2 rfl
    rw [dif_pos hm, ← hidx]
    congr 2
    funext b'
    match b' with
    | ⟨0, _⟩ => exact Subsingleton.elim (α := Fin 1) _ _
  rw [resultIdx?_ix2, hs0, hw0, hs1, hw1]
  omega

/-- Where an update of a block lands when the one start index moves the rows. -/
theorem lands_rows {R C r q : Nat} (d : ScatterDims (shape2 R C) (shape1 1) (shape2 r q)) (huw : d.updateWindowDims = [0, 1])
    (hiw : d.insertedWindowDims = []) (hsd : d.scatterDimsToOperandDims = [0]) (idx : IVec (shape1 1) 32) (k : Nat)
    (hidx : (idx (ValueIdx.ix1 0)).toInt = (k : Int)) (i : Fin r) (j : Fin q) (a : Fin R) (b : Fin C) :
    d.resultIdx? (ValueIdx.ix2 i j) idx = some (ValueIdx.ix2 a b) ↔ k + i.val = a.val ∧ j.val = b.val := by
  have hkept : d.sKept = [0, 1] := by
    show (shape2 R C).kept d.insertedWindowDims = _
    rw [hiw]; rfl
  have hw0 : d.window (ValueIdx.ix2 i j) 0 = i.val := by
    unfold ScatterDims.window
    rw [dif_pos (by rw [hkept]; exact (by decide : (0 : Fin 2) ∈ ([0, 1] : List (Fin 2))))]
    have q : ∀ X : Fin 2, X = 0 → (ValueIdx.ix2 i j X).val = i.val := fun X h => by subst h; rfl
    refine q _ ?_
    simp only [huw, hkept]
    rfl
  have hw1 : d.window (ValueIdx.ix2 i j) 1 = j.val := by
    unfold ScatterDims.window
    rw [dif_pos (by rw [hkept]; exact (by decide : (1 : Fin 2) ∈ ([0, 1] : List (Fin 2))))]
    have q : ∀ X : Fin 2, X = 1 → (ValueIdx.ix2 i j X).val = j.val := fun X h => by subst h; rfl
    refine q _ ?_
    simp only [huw, hkept]
    rfl
  have hs1 : d.start (ValueIdx.ix2 i j) idx 1 = 0 := by
    unfold ScatterDims.start
    rw [dif_neg (by rw [hsd]; exact (by decide : (1 : Fin 2) ∉ ([0] : List (Fin 2))))]
  have hs0 : d.start (ValueIdx.ix2 i j) idx 0 = (k : Int) := by
    unfold ScatterDims.start
    have hm : (0 : Fin 2) ∈ d.scatterDimsToOperandDims := by rw [hsd]; exact List.mem_singleton.2 rfl
    rw [dif_pos hm, ← hidx]
    congr 2
    funext b'
    match b' with
    | ⟨0, _⟩ => exact Subsingleton.elim (α := Fin 1) _ _
  rw [resultIdx?_ix2, hs0, hw0, hs1, hw1]
  omega

/-- A block of columns written at column `k`, read inside the block. -/
theorem scatter_cols_hit {α : Type} {R C r q : Nat} (d : ScatterDims (shape2 R C) (shape1 1) (shape2 r q)) (huw : d.updateWindowDims = [0, 1])
    (hiw : d.insertedWindowDims = []) (hsd : d.scatterDimsToOperandDims = [1]) (x0 : (shape2 R C).Idx → α) (idx : IVec (shape1 1) 32)
    (upd : (shape2 r q).Idx → α) (k : Nat) (hidx : (idx (ValueIdx.ix1 0)).toInt = (k : Int)) (i : Fin r) (j : Fin q) (a : Fin R) (b : Fin C)
    (ha : i.val = a.val) (hb : k + j.val = b.val) : Host.scatter d (fun _ b => b) x0 idx upd (ix2 a b) = upd (ix2 i j) := by
  change Host.scatter d (fun _ b => b) x0 idx upd (ValueIdx.ix2 a b) = upd (ValueIdx.ix2 i j)
  refine scatter_set_hit d x0 idx upd _ _ (fun p hp => ?_) (ValueIdx.ix2 i j) ((lands_cols d huw hiw hsd idx k hidx i j a b).2 ⟨ha, hb⟩)
  rw [ValueIdx.eq_ix2 p] at hp ⊢
  obtain ⟨h1, h2⟩ := (lands_cols d huw hiw hsd idx k hidx (p 0) (p 1) a b).1 hp
  rw [show p 0 = i from Fin.ext (by omega), show p 1 = j from Fin.ext (by omega)]
  rfl

/-- The same, read outside the block: the array written into. -/
theorem scatter_cols_miss {α : Type} {R C r q : Nat} (d : ScatterDims (shape2 R C) (shape1 1) (shape2 r q)) (huw : d.updateWindowDims = [0, 1])
    (hiw : d.insertedWindowDims = []) (hsd : d.scatterDimsToOperandDims = [1]) (x0 : (shape2 R C).Idx → α) (idx : IVec (shape1 1) 32)
    (upd : (shape2 r q).Idx → α) (k : Nat) (hidx : (idx (ValueIdx.ix1 0)).toInt = (k : Int)) (a : Fin R) (b : Fin C)
    (hb : b.val < k ∨ k + q ≤ b.val) : Host.scatter d (fun _ b => b) x0 idx upd (ix2 a b) = x0 (ix2 a b) := by
  change Host.scatter d (fun _ b => b) x0 idx upd (ValueIdx.ix2 a b) = x0 (ValueIdx.ix2 a b)
  refine scatter_set_miss d x0 idx upd _ fun p hp => ?_
  rw [ValueIdx.eq_ix2 p] at hp
  obtain ⟨h1, h2⟩ := (lands_cols d huw hiw hsd idx k hidx (p 0) (p 1) a b).1 hp
  have := (p 1).isLt
  change (p 1).val < q at this
  omega

/-- A block of rows written at row `k`, read inside the block. -/
theorem scatter_rows_hit {α : Type} {R C r q : Nat} (d : ScatterDims (shape2 R C) (shape1 1) (shape2 r q)) (huw : d.updateWindowDims = [0, 1])
    (hiw : d.insertedWindowDims = []) (hsd : d.scatterDimsToOperandDims = [0]) (x0 : (shape2 R C).Idx → α) (idx : IVec (shape1 1) 32)
    (upd : (shape2 r q).Idx → α) (k : Nat) (hidx : (idx (ValueIdx.ix1 0)).toInt = (k : Int)) (i : Fin r) (j : Fin q) (a : Fin R) (b : Fin C)
    (ha : k + i.val = a.val) (hb : j.val = b.val) : Host.scatter d (fun _ b => b) x0 idx upd (ix2 a b) = upd (ix2 i j) := by
  change Host.scatter d (fun _ b => b) x0 idx upd (ValueIdx.ix2 a b) = upd (ValueIdx.ix2 i j)
  refine scatter_set_hit d x0 idx upd _ _ (fun p hp => ?_) (ValueIdx.ix2 i j) ((lands_rows d huw hiw hsd idx k hidx i j a b).2 ⟨ha, hb⟩)
  rw [ValueIdx.eq_ix2 p] at hp ⊢
  obtain ⟨h1, h2⟩ := (lands_rows d huw hiw hsd idx k hidx (p 0) (p 1) a b).1 hp
  rw [show p 0 = i from Fin.ext (by omega), show p 1 = j from Fin.ext (by omega)]
  rfl

/-- The same, read outside the block: the array written into. -/
theorem scatter_rows_miss {α : Type} {R C r q : Nat} (d : ScatterDims (shape2 R C) (shape1 1) (shape2 r q)) (huw : d.updateWindowDims = [0, 1])
    (hiw : d.insertedWindowDims = []) (hsd : d.scatterDimsToOperandDims = [0]) (x0 : (shape2 R C).Idx → α) (idx : IVec (shape1 1) 32)
    (upd : (shape2 r q).Idx → α) (k : Nat) (hidx : (idx (ValueIdx.ix1 0)).toInt = (k : Int)) (a : Fin R) (b : Fin C)
    (hb : a.val < k ∨ k + r ≤ a.val) : Host.scatter d (fun _ b => b) x0 idx upd (ix2 a b) = x0 (ix2 a b) := by
  change Host.scatter d (fun _ b => b) x0 idx upd (ValueIdx.ix2 a b) = x0 (ValueIdx.ix2 a b)
  refine scatter_set_miss d x0 idx upd _ fun p hp => ?_
  rw [ValueIdx.eq_ix2 p] at hp
  obtain ⟨h1, h2⟩ := (lands_rows d huw hiw hsd idx k hidx (p 0) (p 1) a b).1 hp
  have := (p 0).isLt
  change (p 0).val < r at this
  omega

end Cert.Mamba
-- ==== Proof.K.Blocks.lean ====
/- The ten blocks a grid point reads, as the block's arrays: the host's layout changes read at an index. -/
module

public import proofs.«01_k».proof.Proof.K.Point
public import proofs.«01_k».proof.Proof.Math.ParOf
public import proofs.«01_k».proof.Proof.Math.Scatter
public import proofs.«01_k».proof.Proof.Gen.KernelIdeal.Value
public import Idealize.ShloMosaic.Lib.StableHlo.ReadAt

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen Cert.Mamba

variable (m : (ℓ : Loc nD τ sig) → Buf (Elt Ideal) ℓ) (c : Dev nD)

/-- The block's arrays as launched on core `c`. -/
def parAt : Par := parOf (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8)) (m ((c : Thread nD τ).loc main_arg9))

theorem V_v1_apply (k : Fin 768) (e : Fin 3072) : V m c main_v1 (ix2 k e) = (parAt m c).Win e k := by
  unfold V parAt parOf
  after_reads_at

theorem V_v2_apply (k : Fin 4) (d : Fin 1536) : V m c main_v2 (ix2 k d) = (parAt m c).cw d k := by
  unfold V parAt parOf
  after_reads_at

theorem V_v3_apply (d : Fin 1536) : V m c main_v3 (ix2 0 d) = (parAt m c).cb d := by
  unfold V parAt parOf
  after_reads_at

theorem V_v21_apply (d : Fin 1536) : V m c main_v21 (ix2 0 d) = (parAt m c).bdt d := by
  unfold V parAt parOf
  after_reads_at

theorem V_v22_apply (n : Fin 16) (d : Fin 1536) : V m c main_v22 (ix2 n d) = (parAt m c).alog d n := by
  unfold V parAt parOf
  after_reads_at

theorem V_v23_apply (d : Fin 1536) : V m c main_v23 (ix2 0 d) = (parAt m c).D d := by
  unfold V parAt parOf
  after_reads_at

theorem V_v25_apply (d : Fin 1536) (j : Fin 768) : V m c main_v25 (ix2 d j) = (parAt m c).Wout j d := by
  unfold V parAt parOf
  after_reads_at

/-- The transposed projection weights. -/
def wxT : Vec Ideal S1536x80 .f32 := transpose S1536x80 [1, 0] (m ((c : Thread nD τ).loc main_arg4)) transposes_S80x1536_S1536x80_1_0

/-- The projection weights with the parameter columns placed. -/
def wx1 : Vec Ideal S1536x384 .f32 :=
  Host.scatter scatter_S1536x384_S1_S1536x48_01_n_1_0 (fun _ b => b)
    (broadcastInDim S1536x384 ![] bcast_S_S1536x384 (constant (F := Ideal) S_ .f32 0x00000000#32))
    (broadcastInDim S1 ![] bcast_S_S1 (constantI S_ 32 0#32))
    (extractStridedSlice S1536x48 ![0, 0] (wxT m c) slices_S1536x80_S1536x48_0_0)

/-- With the input-matrix columns placed too. -/
def wx2 : Vec Ideal S1536x384 .f32 :=
  Host.scatter scatter_S1536x384_S1_S1536x16_01_n_1_0 (fun _ b => b) (wx1 m c)
    (broadcastInDim S1 ![] bcast_S_S1 (constantI S_ 32 128#32))
    (extractStridedSlice S1536x16 ![0, 48] (wxT m c) slices_S1536x80_S1536x16_0_48)

/-- With the output-matrix columns placed too. -/
def wx3 : Vec Ideal S1536x384 .f32 :=
  Host.scatter scatter_S1536x384_S1_S1536x16_01_n_1_0 (fun _ b => b) (wx2 m c)
    (broadcastInDim S1 ![] bcast_S_S1 (constantI S_ 32 256#32))
    (extractStridedSlice S1536x16 ![0, 64] (wxT m c) slices_S1536x80_S1536x16_0_64)

theorem V_v15_eq : V m c main_v15 = (truncf .bf16 (wx3 m c : FVec Ideal S1536x384 .f32) bitsLt_bf16_f32 : FVec Ideal S1536x384 .bf16) := by
  unfold V
  after_reads_simp
  rfl

/-- The step weights, padded below with zero rows. -/
def wdtP : Vec Ideal S128x1536 .f32 :=
  Host.scatter scatter_S128x1536_S1_S48x1536_01_n_0_0 (fun _ b => b)
    (broadcastInDim S128x1536 ![] bcast_S_S128x1536 (constant (F := Ideal) S_ .f32 0x00000000#32))
    (broadcastInDim S1 ![] bcast_S_S1 (constantI S_ 32 0#32))
    (transpose S48x1536 [1, 0] (m ((c : Thread nD τ).loc main_arg5)) transposes_S1536x48_S48x1536_1_0)

theorem V_v20_eq : V m c main_v20 = (truncf .bf16 (wdtP m c : FVec Ideal S128x1536 .f32) bitsLt_bf16_f32 : FVec Ideal S128x1536 .bf16) := by
  unfold V
  after_reads_simp
  rfl

/-- At the ideal floats a narrowing leaves every entry. -/
theorem truncf_at {s : Shape} (x : FVec Ideal s .f32) (h) (i : s.Idx) : (truncf .bf16 x h : FVec Ideal s .bf16) i = x i := rfl

theorem V_v15_at (d : Fin 1536) (j : Fin 384) : V m c main_v15 (ix2 d j) = wx3 m c (ix2 d j) :=
  (congrFun (V_v15_eq m c) (ix2 d j)).trans (truncf_at _ _ _)

theorem V_v20_at (r : Fin 128) (d : Fin 1536) : V m c main_v20 (ix2 r d) = wdtP m c (ix2 r d) :=
  (congrFun (V_v20_eq m c) (ix2 r d)).trans (truncf_at _ _ _)

theorem V_v15_dt (d : Fin 1536) (j : Fin 48) : V m c main_v15 (ix2 d ⟨j, by omega⟩) = (parAt m c).Wx ⟨j, by omega⟩ d := by
  rw [V_v15_at]
  unfold wx3
  rw [scatter_cols_miss _ rfl rfl rfl _ _ _ 256 rfl _ _ (Or.inl (by show (j : ℕ) < 256; omega))]
  unfold wx2
  rw [scatter_cols_miss _ rfl rfl rfl _ _ _ 128 rfl _ _ (Or.inl (by show (j : ℕ) < 128; omega))]
  unfold wx1
  refine (scatter_cols_hit (R := 1536) (C := 384) (r := 1536) (q := 48) _ rfl rfl rfl _ _ _ 0 rfl d j d ⟨j, by omega⟩ rfl (Nat.zero_add _)).trans ?_
  unfold wxT parAt parOf
  pointwise

theorem V_v15_B (d : Fin 1536) (j : Fin 16) : V m c main_v15 (ix2 d ⟨128 + j, by omega⟩) = (parAt m c).Wx ⟨48 + j, by omega⟩ d := by
  rw [V_v15_at]
  unfold wx3
  rw [scatter_cols_miss _ rfl rfl rfl _ _ _ 256 rfl _ _ (Or.inl (by show 128 + (j : ℕ) < 256; omega))]
  unfold wx2
  rw [scatter_cols_hit _ rfl rfl rfl _ _ _ 128 rfl d j _ _ rfl rfl]
  unfold wxT parAt parOf
  pointwise

theorem V_v15_C (d : Fin 1536) (j : Fin 16) : V m c main_v15 (ix2 d ⟨256 + j, by omega⟩) = (parAt m c).Wx ⟨64 + j, by omega⟩ d := by
  rw [V_v15_at]
  unfold wx3
  rw [scatter_cols_hit _ rfl rfl rfl _ _ _ 256 rfl d j _ _ rfl rfl]
  unfold wxT parAt parOf
  pointwise

theorem V_v20_in (r : Fin 48) (d : Fin 1536) : V m c main_v20 (ix2 ⟨r, by omega⟩ d) = (parAt m c).Wdt d r := by
  rw [V_v20_at]
  unfold wdtP
  refine (scatter_rows_hit (R := 128) (C := 1536) (r := 48) (q := 1536) _ rfl rfl rfl _ _ _ 0 rfl r d ⟨r, by omega⟩ d (Nat.zero_add _) rfl).trans ?_
  unfold parAt parOf
  pointwise

theorem V_v20_pad (r : Fin 80) (d : Fin 1536) : V m c main_v20 (ix2 ⟨48 + r, by omega⟩ d) = (0 : EReal) := by
  rw [V_v20_at]
  unfold wdtP
  rw [scatter_rows_miss _ rfl rfl rfl _ _ _ 0 rfl _ _ (Or.inr (by show 0 + 48 ≤ 48 + (r : ℕ); omega))]
  pointwise

/-! ## The windows' blocks -/

/-- The sequence of grid point `n`. -/
def seqOf (n : ℕ) : Fin 2 := ⟨n / 8 % 2, Nat.mod_lt _ (by decide)⟩

theorem idx0 : ∀ t : Fin cfg0.N, win0_0.index t (0 : Fin 3) = t.val / 8 % 2 ∧ win0_0.index t (1 : Fin 3) = t.val % 8 ∧ win0_0.index t (2 : Fin 3) = 0 := by
  decide

theorem iblk0_apply (t : Fin cfg0.N) (r : Fin 256) (k : Fin 768) :
    (iblk m c 0 t : Vec Ideal S1x256x768 .f32) (ix3 0 r k) = (parAt m c).X (seqOf t.val) (256 * (t.val % 8) + r) k := by
  unfold iblk
  rw [View.read_apply]
  have h : 256 * (t.val % 8) + (r : ℕ) < 2048 := by omega
  unfold parAt parOf
  simp only [dif_pos h]
  obtain ⟨e0, e1, e2⟩ := idx0 t
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 8 % 2; rw [e0]; omega
  | ⟨1, _⟩ => show win0_0.index t 1 * 256 + 1 * r.val = 256 * (t.val % 8) + r.val; rw [e1]; omega
  | ⟨2, _⟩ => show win0_0.index t 2 * 768 + 1 * k.val = k.val; rw [e2]; omega

theorem iblk1_eq (t : Fin cfg0.N) : (iblk m c 1 t : Vec Ideal S768x3072 .bf16) = V m c main_v1 := by
  have e : ∀ t : Fin cfg0.N, win0_1.index t (0 : Fin 2) = 0 ∧ win0_1.index t (1 : Fin 2) = 0 := by decide
  funext j
  unfold iblk
  rw [View.read_apply]
  refine congrArg (V m c main_v1) (funext fun a => Fin.ext ?_)
  match a with
  | ⟨0, _⟩ => show win0_1.index t 0 * 768 + 1 * (j 0).val = (j 0).val; rw [(e t).1]; omega
  | ⟨1, _⟩ => show win0_1.index t 1 * 3072 + 1 * (j 1).val = (j 1).val; rw [(e t).2]; omega

theorem iblk2_eq (t : Fin cfg0.N) : (iblk m c 2 t : Vec Ideal S4x1536 .f32) = V m c main_v2 := by
  have e : ∀ t : Fin cfg0.N, win0_2.index t (0 : Fin 2) = 0 ∧ win0_2.index t (1 : Fin 2) = 0 := by decide
  funext j
  unfold iblk
  rw [View.read_apply]
  refine congrArg (V m c main_v2) (funext fun a => Fin.ext ?_)
  match a with
  | ⟨0, _⟩ => show win0_2.index t 0 * 4 + 1 * (j 0).val = (j 0).val; rw [(e t).1]; omega
  | ⟨1, _⟩ => show win0_2.index t 1 * 1536 + 1 * (j 1).val = (j 1).val; rw [(e t).2]; omega

theorem iblk3_eq (t : Fin cfg0.N) : (iblk m c 3 t : Vec Ideal S1x1536 .f32) = V m c main_v3 := by
  have e : ∀ t : Fin cfg0.N, win0_3.index t (0 : Fin 2) = 0 ∧ win0_3.index t (1 : Fin 2) = 0 := by decide
  funext j
  unfold iblk
  rw [View.read_apply]
  refine congrArg (V m c main_v3) (funext fun a => Fin.ext ?_)
  match a with
  | ⟨0, _⟩ => show win0_3.index t 0 * 1 + 1 * (j 0).val = (j 0).val; rw [(e t).1]; omega
  | ⟨1, _⟩ => show win0_3.index t 1 * 1536 + 1 * (j 1).val = (j 1).val; rw [(e t).2]; omega

theorem iblk4_eq (t : Fin cfg0.N) : (iblk m c 4 t : Vec Ideal S1536x384 .bf16) = V m c main_v15 := by
  have e : ∀ t : Fin cfg0.N, win0_4.index t (0 : Fin 2) = 0 ∧ win0_4.index t (1 : Fin 2) = 0 := by decide
  funext j
  unfold iblk
  rw [View.read_apply]
  refine congrArg (V m c main_v15) (funext fun a => Fin.ext ?_)
  match a with
  | ⟨0, _⟩ => show win0_4.index t 0 * 1536 + 1 * (j 0).val = (j 0).val; rw [(e t).1]; omega
  | ⟨1, _⟩ => show win0_4.index t 1 * 384 + 1 * (j 1).val = (j 1).val; rw [(e t).2]; omega

theorem iblk5_eq (t : Fin cfg0.N) : (iblk m c 5 t : Vec Ideal S128x1536 .bf16) = V m c main_v20 := by
  have e : ∀ t : Fin cfg0.N, win0_5.index t (0 : Fin 2) = 0 ∧ win0_5.index t (1 : Fin 2) = 0 := by decide
  funext j
  unfold iblk
  rw [View.read_apply]
  refine congrArg (V m c main_v20) (funext fun a => Fin.ext ?_)
  match a with
  | ⟨0, _⟩ => show win0_5.index t 0 * 128 + 1 * (j 0).val = (j 0).val; rw [(e t).1]; omega
  | ⟨1, _⟩ => show win0_5.index t 1 * 1536 + 1 * (j 1).val = (j 1).val; rw [(e t).2]; omega

theorem iblk6_eq (t : Fin cfg0.N) : (iblk m c 6 t : Vec Ideal S1x1536 .f32) = V m c main_v21 := by
  have e : ∀ t : Fin cfg0.N, win0_6.index t (0 : Fin 2) = 0 ∧ win0_6.index t (1 : Fin 2) = 0 := by decide
  funext j
  unfold iblk
  rw [View.read_apply]
  refine congrArg (V m c main_v21) (funext fun a => Fin.ext ?_)
  match a with
  | ⟨0, _⟩ => show win0_6.index t 0 * 1 + 1 * (j 0).val = (j 0).val; rw [(e t).1]; omega
  | ⟨1, _⟩ => show win0_6.index t 1 * 1536 + 1 * (j 1).val = (j 1).val; rw [(e t).2]; omega

theorem iblk7_eq (t : Fin cfg0.N) : (iblk m c 7 t : Vec Ideal S16x1536 .f32) = V m c main_v22 := by
  have e : ∀ t : Fin cfg0.N, win0_7.index t (0 : Fin 2) = 0 ∧ win0_7.index t (1 : Fin 2) = 0 := by decide
  funext j
  unfold iblk
  rw [View.read_apply]
  refine congrArg (V m c main_v22) (funext fun a => Fin.ext ?_)
  match a with
  | ⟨0, _⟩ => show win0_7.index t 0 * 16 + 1 * (j 0).val = (j 0).val; rw [(e t).1]; omega
  | ⟨1, _⟩ => show win0_7.index t 1 * 1536 + 1 * (j 1).val = (j 1).val; rw [(e t).2]; omega

theorem iblk8_eq (t : Fin cfg0.N) : (iblk m c 8 t : Vec Ideal S1x1536 .f32) = V m c main_v23 := by
  have e : ∀ t : Fin cfg0.N, win0_8.index t (0 : Fin 2) = 0 ∧ win0_8.index t (1 : Fin 2) = 0 := by decide
  funext j
  unfold iblk
  rw [View.read_apply]
  refine congrArg (V m c main_v23) (funext fun a => Fin.ext ?_)
  match a with
  | ⟨0, _⟩ => show win0_8.index t 0 * 1 + 1 * (j 0).val = (j 0).val; rw [(e t).1]; omega
  | ⟨1, _⟩ => show win0_8.index t 1 * 1536 + 1 * (j 1).val = (j 1).val; rw [(e t).2]; omega

theorem iblk9_eq (t : Fin cfg0.N) : (iblk m c 9 t : Vec Ideal S1536x768 .bf16) = V m c main_v25 := by
  have e : ∀ t : Fin cfg0.N, win0_9.index t (0 : Fin 2) = 0 ∧ win0_9.index t (1 : Fin 2) = 0 := by decide
  funext j
  unfold iblk
  rw [View.read_apply]
  refine congrArg (V m c main_v25) (funext fun a => Fin.ext ?_)
  match a with
  | ⟨0, _⟩ => show win0_9.index t 0 * 1536 + 1 * (j 0).val = (j 0).val; rw [(e t).1]; omega
  | ⟨1, _⟩ => show win0_9.index t 1 * 768 + 1 * (j 1).val = (j 1).val; rw [(e t).2]; omega

/-- The ten blocks of a grid point are the block's arrays, the input's at the point's chunk. -/
theorem blk_at (t : Fin cfg0.N) : Blk (parAt m c) (seqOf t.val) (t.val % 8) (iblk m c 0 t) (iblk m c 1 t) (iblk m c 2 t)
    (iblk m c 3 t) (iblk m c 4 t) (iblk m c 5 t) (iblk m c 6 t) (iblk m c 7 t) (iblk m c 8 t) (iblk m c 9 t) where
  h0 r k := iblk0_apply m c t r k
  h1 k e := (congrFun (iblk1_eq m c t) _).trans (V_v1_apply m c k e)
  h2 k d := (congrFun (iblk2_eq m c t) _).trans (V_v2_apply m c k d)
  h3 d := (congrFun (iblk3_eq m c t) _).trans (V_v3_apply m c d)
  h4dt d j := (congrFun (iblk4_eq m c t) _).trans (V_v15_dt m c d j)
  h4B d j := (congrFun (iblk4_eq m c t) _).trans (V_v15_B m c d j)
  h4C d j := (congrFun (iblk4_eq m c t) _).trans (V_v15_C m c d j)
  h5 r d := (congrFun (iblk5_eq m c t) _).trans (V_v20_in m c r d)
  h5z r d := (congrFun (iblk5_eq m c t) _).trans (V_v20_pad m c r d)
  h6 d := (congrFun (iblk6_eq m c t) _).trans (V_v21_apply m c d)
  h7 n d := (congrFun (iblk7_eq m c t) _).trans (V_v22_apply m c n d)
  h8 d := (congrFun (iblk8_eq m c t) _).trans (V_v23_apply m c d)
  h9 d j := (congrFun (iblk9_eq m c t) _).trans (V_v25_apply m c d j)

end Cert.KernelIdeal.Chunk
-- ==== Proof.K.Fold.lean ====
/- The grid's sixteen points in order, and the array they write. -/
module

public import proofs.«01_k».proof.Proof.K.Blocks

@[expose] public section

set_option maxRecDepth 16384

noncomputable section

namespace Cert.KernelIdeal.Chunk

open Idealize.ShloMosaic Idealize.ShloMosaic.TcCoe Idealize.ShloMosaic.Tactic
open Cert.KernelIdeal Cert.KernelIdeal.Gen Cert.KernelIdeal.Value Cert.Mamba

variable (m : (ℓ : Loc nD τ sig) → Buf (Elt Ideal) ℓ) (c : Dev nD)

theorem post_chunk {P : Par} {b : Fin 2} {ch ch' : ℕ} {o s l} (e : ch = ch') (h : Post P b ch o s l) : Post P b ch' o s l := e ▸ h

theorem blk_chunk {P : Par} {b : Fin 2} {ch ch' : ℕ} {x0 x1 x2 x3 x4 x5 x6 x7 x8 x9} (e : ch = ch') (h : Blk P b ch x0 x1 x2 x3 x4 x5 x6 x7 x8 x9) :
    Blk P b ch' x0 x1 x2 x3 x4 x5 x6 x7 x8 x9 := e ▸ h

/-- A point that opens a sequence, from anything. -/
theorem post_first (t : Fin cfg0.N) (acc) (h0 : t.val % 8 = 0) :
    Post (parAt m c) (seqOf t.val) (t.val % 8) (stAt0 m c t.val t.isLt acc).1 (stAt0 m c t.val t.isLt acc).2.1 (stAt0 m c t.val t.isLt acc).2.2 := by
  rw [stAt0_A m c t acc h0]
  dsimp only
  refine post_chunk h0.symm ?_
  refine post_A _ _ _ _ _ _ _ _ _ _ _ _ _ _ _ _ _ _ _ _ _ _ _ _ _ _ _ _ _ _ _ _ _ _ _ ?_
  exact blk_chunk h0 (blk_at m c t)

/-- A later point, from what the point before left. -/
theorem post_next (t : Fin cfg0.N) (acc) (h0 : ¬t.val % 8 = 0)
    (HS : ∀ (n : Fin 16) (d : Fin 1536), acc.2.1 (ix2 n d) = hS (parAt m c) (seqOf t.val) (256 * (t.val % 8)) d n)
    (HT : ∀ (i : Fin 3) (d : Fin 1536), acc.2.2 (ix2 ⟨i, by omega⟩ d) = up (parAt m c) (seqOf t.val) (256 * (t.val % 8) + i) d) :
    Post (parAt m c) (seqOf t.val) (t.val % 8) (stAt0 m c t.val t.isLt acc).1 (stAt0 m c t.val t.isLt acc).2.1 (stAt0 m c t.val t.isLt acc).2.2 := by
  rw [stAt0_B m c t acc h0]
  dsimp only
  refine post_B _ _ _ _ _ _ _ _ _ _ _ _ _ _ _ _ _ _ _ _ _ _ _ _ _ _ _ _ _ _ _ _ _ _ _ ?_ ?_ ?_
  · exact blk_at m c t
  · exact HS
  · exact HT

/-- What the first `n + 1` points leave. -/
abbrev foldAt (n : ℕ) (h : 0 + n < cfg0.N) := Pipeline.accAt (fun n h => stAt0 m c n h junk0) (stAt0 m c) 0 n h

theorem post_fold (n : ℕ) (h : 0 + n < cfg0.N) (h' : n < 16) :
    Post (parAt m c) (seqOf n) (n % 8) (foldAt m c n h).1 (foldAt m c n h).2.1 (foldAt m c n h).2.2 := by
  induction n with
  | zero => exact post_first m c ⟨0, h⟩ junk0 rfl
  | succ k ih =>
    have hk : 0 + k < cfg0.N := by omega
    have I := ih hk (by omega)
    have hk1 : k + 1 < cfg0.N := by omega
    have e : foldAt m c (k + 1) h = stAt0 m c (k + 1) hk1 (foldAt m c k hk) := by
      unfold foldAt
      rw [Pipeline.accAt_succ]
      simp only [Nat.zero_add]
    rw [e]
    by_cases h0 : (k + 1) % 8 = 0
    · exact post_first m c ⟨k + 1, hk1⟩ _ h0
    · have hq : seqOf k = seqOf (k + 1) := Fin.ext (by show k / 8 % 2 = (k + 1) / 8 % 2; omega)
      have hc : k % 8 + 1 = (k + 1) % 8 := by omega
      rw [hq] at I
      refine post_next m c ⟨k + 1, hk1⟩ _ h0 (fun n d => ?_) fun i d => ?_
      · rw [I.st n d, hc]
      · rw [I.tl i d, hc]

/-- The array the grid leaves: the block's output. -/
theorem G10_apply (b : Fin 2) (t : Fin 2048) (j : Fin 768) : G10 m c (ix3 b t j) = outS (parAt m c) b t j := by
  have hp : pt10Of (ix3 b t j) = 8 * b.val + t.val / 256 := by
    show 8 * (b.val / 1 - 0) + 1 * (t.val / 256 - 0) + 1 * (j.val / 768 - 0) = _
    have := j.isLt
    omega
  have hb := b.isLt
  have ht := t.isLt
  unfold G10
  rw [dif_pos (by rw [hp]; show _ < 16; omega)]
  have P := (post_fold m c (8 * b.val + t.val / 256) (by show _ < 16; omega) (by omega)).out ⟨t.val % 256, by omega⟩ j
  have hs : seqOf (8 * b.val + t.val / 256) = b := Fin.ext (by show (8 * b.val + t.val / 256) / 8 % 2 = b.val; omega)
  have hr : 256 * ((8 * b.val + t.val / 256) % 8) + t.val % 256 = t.val := by omega
  rw [hs] at P
  refine Eq.trans ?_ (P.trans (by show outS _ _ (256 * ((8 * b.val + t.val / 256) % 8) + t.val % 256) _ = _; rw [hr]))
  rw [fold0_congr m c _ _ _ _ hp]
  refine congrArg _ (funext fun a => Fin.ext ?_)
  match a with
  | ⟨0, _⟩ => exact Nat.mod_one _
  | ⟨1, _⟩ => rfl
  | ⟨2, _⟩ => exact Nat.mod_eq_of_lt j.isLt

end Cert.KernelIdeal.Chunk
-- ==== Proof.R.Stages.lean ====
/- The reference's stretches before its loop, each read at an index of the contents it starts from. -/
module

public import proofs.«01_k».proof.Proof.Math.ParOf
public import proofs.«01_k».proof.Proof.Gen.ReferenceIdeal.Run
public import Idealize.ShloMosaic.Lib.StableHlo.ReadAt

@[expose] public section

set_option maxRecDepth 16384

noncomputable section

namespace Cert.ReferenceIdeal.Stages

open Idealize.ShloMosaic Idealize.ShloMosaic.TcCoe Idealize.ShloMosaic.Tactic Idealize.ShloMosaic.StableHlo
open Cert.ReferenceIdeal Cert.ReferenceIdeal.Gen Cert.ReferenceIdeal.Value Cert.Mamba

variable (P : Par) (V : Valuation τ sig (Elt Ideal))

theorem v1_at (hx : ∀ (b : Fin 2) (t : Fin 2048) (k : Fin 768), V (Proc.devRef .tc main_arg0) (ix3 b t k) = P.X b t k)
    (hw : ∀ (e : Fin 3072) (k : Fin 768), V (Proc.devRef .tc main_arg1) (ix2 e k) = P.Win e k) (b : Fin 2) (t : Fin 2048) (d : Fin 1536) :
    after hostOps0 V (Proc.devRef .tc main_v1) (ix3 b t d) = uR P b t d := by
  after_reads_at
  simp only [hx, hw]
  rfl

theorem v2_at (hx : ∀ (b : Fin 2) (t : Fin 2048) (k : Fin 768), V (Proc.devRef .tc main_arg0) (ix3 b t k) = P.X b t k)
    (hw : ∀ (e : Fin 3072) (k : Fin 768), V (Proc.devRef .tc main_arg1) (ix2 e k) = P.Win e k) (b : Fin 2) (t : Fin 2048) (d : Fin 1536) :
    after hostOps0 V (Proc.devRef .tc main_v2) (ix3 b t d) = zR P b t d := by
  after_reads_at
  simp only [hx, hw]
  rfl

theorem c_at : after hostOps0 V (Proc.devRef .tc main_c) = constantI S_ 32 0#32 := by
  after_reads_simp

/-- The integer zero as a float is zero. -/
theorem sitofp_zero : (FloatOps.sitofp (F := Ideal) FTy.f32 (0#32) : EReal) = 0 := by
  show ((((0#32 : BitVec 32).toInt : ℤ) : ℝ) : EReal) = 0
  norm_num

theorem v3_at (hc : V (Proc.devRef .tc main_c) = constantI S_ 32 0#32) (hu : ∀ (b : Fin 2) (t : Fin 2048) (d : Fin 1536), V (Proc.devRef .tc main_v1) (ix3 b t d) = uR P b t d)
    (b : Fin 2) (t : Fin 2051) (d : Fin 1536) : after hostOps0_1 V (Proc.devRef .tc main_v3) (ix3 b t d) = up P b t d := by
  after_reads_at
  unfold up
  by_cases h3 : (t : ℕ) < 3
  · rw [dif_neg (by omega), if_pos h3, hc]
    exact sitofp_zero
  · rw [dif_pos ⟨by omega, by omega⟩, if_neg h3]
    exact hu b ⟨t - 3, by omega⟩ d

theorem v35_at (hu : ∀ (b : Fin 2) (t : Fin 2051) (d : Fin 1536), V (Proc.devRef .tc main_v3) (ix3 b t d) = up P b t d)
    (hw : ∀ (d : Fin 1536) (k : Fin 4), V (Proc.devRef .tc main_arg2) (ix2 d k) = P.cw d k)
    (hb : ∀ (d : Fin 1536), V (Proc.devRef .tc main_arg3) (ix1 d) = P.cb d)
    (b : Fin 2) (t : Fin 2048) (d : Fin 1536) : after hostOps0_2 V (Proc.devRef .tc main_v35) (ix3 b t d) = cv P b t d + P.cb d := by
  after_reads_at
  simp only [hu, hw, hb]
  unfold cv
  rw [Nat.add_comm 1 t.val, Nat.add_comm 2 t.val, Nat.add_comm 3 t.val]

theorem v36_at (f : Fin 2 → ℕ → Fin 1536 → EReal) (h : ∀ (b : Fin 2) (t : Fin 2048) (d : Fin 1536), V (Proc.devRef .tc main_v35) (ix3 b t d) = f b t d)
    (b : Fin 2) (t : Fin 2048) (d : Fin 1536) : after hostOps0_3 V (Proc.devRef .tc main_v36) (ix3 b t d) = silu (f b t d) := by
  after_reads_at
  simp only [h]
  rfl

theorem v44_at (hu : ∀ (b : Fin 2) (t : Fin 2048) (d : Fin 1536), V (Proc.devRef .tc main_v36) (ix3 b t d) = uc P b t d)
    (hx : ∀ (e : Fin 80) (d : Fin 1536), V (Proc.devRef .tc main_arg4) (ix2 e d) = P.Wx e d)
    (hw : ∀ (d : Fin 1536) (r : Fin 48), V (Proc.devRef .tc main_arg5) (ix2 d r) = P.Wdt d r)
    (hb : ∀ (d : Fin 1536), V (Proc.devRef .tc main_arg6) (ix1 d) = P.bdt d)
    (b : Fin 2) (t : Fin 2048) (d : Fin 1536) :
    after hostOps0_4 V (Proc.devRef .tc main_v44) (ix3 b t d) = ∑ r : Fin 48, xp P b t ⟨r, by omega⟩ * P.Wdt d r + P.bdt d := by
  after_reads_at
  simp only [hu, hx, hw, hb]
  rfl

theorem v39_at (hu : ∀ (b : Fin 2) (t : Fin 2048) (d : Fin 1536), V (Proc.devRef .tc main_v36) (ix3 b t d) = uc P b t d)
    (hx : ∀ (e : Fin 80) (d : Fin 1536), V (Proc.devRef .tc main_arg4) (ix2 e d) = P.Wx e d)
    (b : Fin 2) (t : Fin 2048) (n : Fin 16) : after hostOps0_4 V (Proc.devRef .tc main_v39) (ix3 b t n) = Bm P b t n := by
  after_reads_at
  simp only [hu, hx]
  rfl

theorem v40_at (hu : ∀ (b : Fin 2) (t : Fin 2048) (d : Fin 1536), V (Proc.devRef .tc main_v36) (ix3 b t d) = uc P b t d)
    (hx : ∀ (e : Fin 80) (d : Fin 1536), V (Proc.devRef .tc main_arg4) (ix2 e d) = P.Wx e d)
    (b : Fin 2) (t : Fin 2048) (n : Fin 16) : after hostOps0_4 V (Proc.devRef .tc main_v40) (ix3 b t n) = Cm P b t n := by
  after_reads_at
  simp only [hu, hx]
  rfl

theorem v45_at (f : Fin 2 → ℕ → Fin 1536 → EReal) (h : ∀ (b : Fin 2) (t : Fin 2048) (d : Fin 1536), V (Proc.devRef .tc main_v44) (ix3 b t d) = f b t d)
    (b : Fin 2) (t : Fin 2048) (d : Fin 1536) : after hostOps0_5 V (Proc.devRef .tc main_v45) (ix3 b t d) = softplus (f b t d) := by
  after_reads_at
  simp only [h]
  rw [if_neg (fun h => h rfl)]
  rfl

theorem v54_0_at (t : Fin 2048) (b : Fin 2) (d : Fin 1536) :
    after hostOps0_6 V (Proc.devRef .tc main_v54_0) (ix3 t b d) = V (Proc.devRef .tc main_v45) (ix3 b t d) := by
  after_reads_at
  rw [id]
  pointwise

theorem v54_1_at (t : Fin 2048) (b : Fin 2) (n : Fin 16) :
    after hostOps0_6 V (Proc.devRef .tc main_v54_1) (ix3 t b n) = V (Proc.devRef .tc main_v39) (ix3 b t n) := by
  after_reads_at
  rw [id]
  pointwise

theorem v54_2_at (t : Fin 2048) (b : Fin 2) (n : Fin 16) :
    after hostOps0_6 V (Proc.devRef .tc main_v54_2) (ix3 t b n) = V (Proc.devRef .tc main_v40) (ix3 b t n) := by
  after_reads_at
  rw [id]
  pointwise

theorem v54_3_at (t : Fin 2048) (b : Fin 2) (d : Fin 1536) :
    after hostOps0_6 V (Proc.devRef .tc main_v54_3) (ix3 t b d) = V (Proc.devRef .tc main_v36) (ix3 b t d) := by
  after_reads_at
  rw [id]
  pointwise

theorem v54_4_at (ha : ∀ (d : Fin 1536) (n : Fin 16), V (Proc.devRef .tc main_arg7) (ix2 d n) = P.alog d n) (d : Fin 1536) (n : Fin 16) :
    after hostOps0_6 V (Proc.devRef .tc main_v54_4) (ix2 d n) = -Ideal.exp (P.alog d n) := by
  after_reads_at
  rw [id]
  pointwise
  simp only [ha]

theorem v54_6_at (b : Fin 2) (d : Fin 1536) (n : Fin 16) :
    after hostOps0_6 V (Proc.devRef .tc main_v54_6) (ix3 b d n) = (0 : EReal) := by
  after_reads_at
  rw [id]
  pointwise

end Cert.ReferenceIdeal.Stages
-- ==== Proof.R.Trip.lean ====
/- One trip of the reference's loop, read at an index. Trip `k` reads row `k` of each of the four carried
   sequences, moves the state one step on, and writes the step's result into row `k` of the carried output. -/
module

public import proofs.«01_k».proof.Proof.R.Stages
public import Idealize.ShloMosaic.Lib.WordCmp

@[expose] public section

set_option maxRecDepth 16384

noncomputable section

namespace Cert.ReferenceIdeal.Trip

open Idealize.ShloMosaic Idealize.ShloMosaic.TcCoe Idealize.ShloMosaic.Tactic
open Idealize.ShloMosaic.StableHlo
open Cert.ReferenceIdeal Cert.ReferenceIdeal.Gen Cert.ReferenceIdeal.Value
open Cert.Mamba

/-- One row of a rank-three array, sliced out at a start that is the row's number. -/
theorem row_at {α : Type} {n p w : ℕ} (x : (⟨3, ![n, p, w]⟩ : Shape).Idx → α) (start : Fin 3 → Int)
    (h : (⟨3, ![n, p, w]⟩ : Shape).Slices (fun _ => 0) ⟨3, ![1, p, w]⟩) (k : Fin n) (h0 : start 0 = (k : ℕ))
    (h1 : start 1 = 0) (h2 : start 2 = 0) (b : Fin p) (d : Fin w) :
    Host.dynamicSlice (⟨3, ![1, p, w]⟩ : Shape) x start h (ix3 0 b d) = x (ix3 k b d) := by
  rw [Host.dynamicSlice_apply]
  congr 1
  have e0 := Host.clampedStart_of_le h.1 start 0 k h0 (by show (k : ℕ) + 1 ≤ n; omega)
  have e1 := Host.clampedStart_of_le h.1 start 1 0 h1 (by show 0 + p ≤ p; omega)
  have e2 := Host.clampedStart_of_le h.1 start 2 0 h2 (by show 0 + w ≤ w; omega)
  funext a
  apply Fin.ext
  fin_cases a
  · show Host.clampedStart _ _ h.1 start 0 + 0 = (k : ℕ); omega
  · show Host.clampedStart _ _ h.1 start 1 + (b : ℕ) = (b : ℕ); omega
  · show Host.clampedStart _ _ h.1 start 2 + (d : ℕ) = (d : ℕ); omega

/-- One row of a rank-three array overwritten: that row is the update, the others are kept. -/
theorem setRow_at {α : Type} {n p w : ℕ} (x : (⟨3, ![n, p, w]⟩ : Shape).Idx → α)
    (u : (⟨3, ![1, p, w]⟩ : Shape).Idx → α) (start : Fin 3 → Int)
    (h : (⟨3, ![n, p, w]⟩ : Shape).Slices (fun _ => 0) ⟨3, ![1, p, w]⟩) (k : Fin n) (h0 : start 0 = (k : ℕ))
    (h1 : start 1 = 0) (h2 : start 2 = 0) (t : Fin n) (b : Fin p) (d : Fin w) :
    Host.dynamicUpdateSlice x u start h (ix3 t b d) = if t = k then u (ix3 0 b d) else x (ix3 t b d) := by
  rw [Host.dynamicUpdateSlice_apply]
  have e0 := Host.clampedStart_of_le h.1 start 0 k h0 (by show (k : ℕ) + 1 ≤ n; omega)
  have e1 := Host.clampedStart_of_le h.1 start 1 0 h1 (by show 0 + p ≤ p; omega)
  have e2 := Host.clampedStart_of_le h.1 start 2 0 h2 (by show 0 + w ≤ w; omega)
  by_cases ht : t = k
  · subst ht
    rw [if_pos rfl, dif_pos]
    · congr 1
      funext a
      apply Fin.ext
      fin_cases a
      · show (t : ℕ) - Host.clampedStart _ _ h.1 start 0 = 0; omega
      · show (b : ℕ) - Host.clampedStart _ _ h.1 start 1 = (b : ℕ); omega
      · show (d : ℕ) - Host.clampedStart _ _ h.1 start 2 = (d : ℕ); omega
    · intro a
      fin_cases a
      · show Host.clampedStart _ _ h.1 start 0 ≤ (t : ℕ) ∧ (t : ℕ) < Host.clampedStart _ _ h.1 start 0 + 1; omega
      · show Host.clampedStart _ _ h.1 start 1 ≤ (b : ℕ) ∧ (b : ℕ) < Host.clampedStart _ _ h.1 start 1 + p
        have := b.isLt; omega
      · show Host.clampedStart _ _ h.1 start 2 ≤ (d : ℕ) ∧ (d : ℕ) < Host.clampedStart _ _ h.1 start 2 + w
        have := d.isLt; omega
  · rw [if_neg ht, dif_neg]
    intro hin
    have h3 := hin 0
    have h4 : Host.clampedStart _ _ h.1 start 0 ≤ (t : ℕ) ∧ (t : ℕ) < Host.clampedStart _ _ h.1 start 0 + 1 := h3
    exact ht (Fin.ext (by omega))

/-- The counter at trip `k`, read as a number. -/
theorem ctr_toInt {k : ℕ} (hk : k < 2048) : (Scf.iv 0#32 1#32 k).toInt = (k : ℕ) := by
  rw [Scf.iv_eq_ofInt]
  have e : (0#32 : BitVec 32).toInt + (k : Int) * (1#32 : BitVec 32).toInt = (k : ℕ) := by
    have h0 : (0#32 : BitVec 32).toInt = 0 := by decide
    have h1 : (1#32 : BitVec 32).toInt = 1 := by decide
    rw [h0, h1]; omega
  rw [e, BitVec.ofInt_natCast]
  rw [BitVec.toInt_ofNat']; simp [Int.bmod]; omega

variable (P : Par) (V : Valuation τ sig (Elt Ideal))

/-- The start of a trip's reads: the counter on the sequence's axis, zero on the others. -/
def start : Fin 3 → Int := fun a => (((![V (Proc.devRef .tc main_v54_5), constantI S_ 32 0#32, constantI S_ 32 0#32] :
  Fin 3 → (⟨S_, .i32⟩ : BufTy).Contents (Elt Ideal))) a (Shape.Idx.first h_S_)).toInt

theorem start_zero (k : Fin 2048) (hc : V (Proc.devRef .tc main_v54_5) = fun _ => Scf.iv 0#32 1#32 k) :
    start V 0 = (k : ℕ) := by
  show (V (Proc.devRef .tc main_v54_5) (Shape.Idx.first h_S_)).toInt = _
  rw [hc]
  exact ctr_toInt k.isLt

/-- A trip's row of a channel-wide sequence. -/
def rowD (x : S2048x2x1536.Idx → EReal) : S2x1536.Idx → EReal :=
  shapeCast S2x1536 (Host.dynamicSlice S1x2x1536 x (start V) sliceFits_S2048x2x1536_S1x2x1536) shapeCasts_S1x2x1536_S2x1536

/-- A trip's row of a state-wide sequence. -/
def rowN (x : S2048x2x16.Idx → EReal) : S2x16.Idx → EReal :=
  shapeCast S2x16 (Host.dynamicSlice S1x2x16 x (start V) sliceFits_S2048x2x16_S1x2x16) shapeCasts_S1x2x16_S2x16

theorem dropD (y : S1x2x1536.Idx → EReal) (b : Fin 2) (d : Fin 1536) :
    shapeCast S2x1536 y shapeCasts_S1x2x1536_S2x1536 (ix2 b d) = y (ix3 0 b d) := by
  pointwise

theorem dropN (y : S1x2x16.Idx → EReal) (b : Fin 2) (n : Fin 16) :
    shapeCast S2x16 y shapeCasts_S1x2x16_S2x16 (ix2 b n) = y (ix3 0 b n) := by
  pointwise

theorem rowD_at (k : Fin 2048) (hc : V (Proc.devRef .tc main_v54_5) = fun _ => Scf.iv 0#32 1#32 k)
    (x : S2048x2x1536.Idx → EReal) (b : Fin 2) (d : Fin 1536) : rowD V x (ix2 b d) = x (ix3 k b d) :=
  (dropD _ b d).trans (row_at (n := 2048) (p := 2) (w := 1536) x (start V) _ k (start_zero V k hc) rfl rfl b d)

theorem rowN_at (k : Fin 2048) (hc : V (Proc.devRef .tc main_v54_5) = fun _ => Scf.iv 0#32 1#32 k)
    (x : S2048x2x16.Idx → EReal) (b : Fin 2) (n : Fin 16) : rowN V x (ix2 b n) = x (ix3 k b n) :=
  (dropN _ b n).trans (row_at (n := 2048) (p := 2) (w := 16) x (start V) _ k (start_zero V k hc) rfl rfl b n)

/-- The state's update from one step's rows. -/
def stepF (r : S2x1536.Idx → Ideal .f32) (A : S1536x16.Idx → Ideal .f32) (h : S2x1536x16.Idx → Ideal .f32) (B : S2x16.Idx → Ideal .f32)
    (u : S2x1536.Idx → Ideal .f32) : S2x1536x16.Idx → Ideal .f32 :=
  addf (F := Ideal) (mulf (Host.exp (mulf (broadcastInDim S2x1536x16 ![0, 1, 2] bcast_S2x1536x1_S2x1536x16_0_1_2 (broadcastInDim S2x1536x1 ![0, 1] bcast_S2x1536_S2x1536x1_0_1 r))
      (broadcastInDim S2x1536x16 ![0, 1, 2] bcast_S1x1536x16_S2x1536x16_0_1_2 (broadcastInDim S1x1536x16 ![1, 2] bcast_S1536x16_S1x1536x16_1_2 A)))) h)
    (mulf (mulf (broadcastInDim S2x1536x16 ![0, 1, 2] bcast_S2x1536x1_S2x1536x16_0_1_2 (broadcastInDim S2x1536x1 ![0, 1] bcast_S2x1536_S2x1536x1_0_1 r))
      (broadcastInDim S2x1536x16 ![0, 1, 2] bcast_S2x1x16_S2x1536x16_0_1_2 (broadcastInDim S2x1x16 ![0, 2] bcast_S2x16_S2x1x16_0_2 B)))
      (broadcastInDim S2x1536x16 ![0, 1, 2] bcast_S2x1536x1_S2x1536x16_0_1_2 (broadcastInDim S2x1536x1 ![0, 1] bcast_S2x1536_S2x1536x1_0_1 u)))

theorem stepF_at (r : S2x1536.Idx → Ideal .f32) (A : S1536x16.Idx → Ideal .f32) (h : S2x1536x16.Idx → Ideal .f32) (B : S2x16.Idx → Ideal .f32)
    (u : S2x1536.Idx → Ideal .f32) (b : Fin 2) (d : Fin 1536) (n : Fin 16) :
    stepF r A h B u (ix3 b d n) = Ideal.exp (r (ix2 b d) * A (ix2 d n)) * h (ix3 b d n)
      + r (ix2 b d) * B (ix2 b n) * u (ix2 b d) := by
  pointwise [stepF]

theorem v82_eq : res_main_while0b_v82 V = stepF (rowD V (V (Proc.devRef .tc main_v54_0))) (V (Proc.devRef .tc main_v54_4))
    (V (Proc.devRef .tc main_v54_6)) (rowN V (V (Proc.devRef .tc main_v54_1))) (rowD V (V (Proc.devRef .tc main_v54_3))) := rfl

/-- The step's row of results. -/
def outRow (h : S2x1536x16.Idx → Ideal .f32) (C : S2x16.Idx → Ideal .f32) : S1x2x1536.Idx → Ideal .f32 :=
  broadcastInDim S1x2x1536 ![1, 2] bcast_S2x1536_S1x2x1536_1_2
    (Host.dotGeneral (F := Ideal) dot_S2x1536x16_S2x16_S2x1536_2_1_1_n_0_0 none h C)

theorem outRow_at (h : S2x1536x16.Idx → Ideal .f32) (C : S2x16.Idx → Ideal .f32) (b : Fin 2) (d : Fin 1536) :
    outRow h C (ix3 0 b d) = ∑ n : Fin 16, h (ix3 b d n) * C (ix2 b n) := by
  pointwise [outRow]

/-- What a trip leaves in the carried output. -/
theorem trip7_eq : afterL bodyI V (Proc.devRef .tc main_v54_7) =
    Host.dynamicUpdateSlice (V (Proc.devRef .tc main_v54_7))
      (outRow (res_main_while0b_v82 V) (rowN V (V (Proc.devRef .tc main_v54_2)))) (start V)
      updateFits_S2048x2x1536_S1x2x1536 :=
  trip_main_v54_7 V

/-- What the loop has reached before trip `k`. -/
structure At (k : ℕ) : Prop where
  ctr : V (Proc.devRef .tc main_v54_5) = fun _ => Scf.iv 0#32 1#32 k
  dt : ∀ (t : Fin 2048) (b : Fin 2) (d : Fin 1536), V (Proc.devRef .tc main_v54_0) (ix3 t b d) = Mamba.dt P b t d
  bm : ∀ (t : Fin 2048) (b : Fin 2) (n : Fin 16), V (Proc.devRef .tc main_v54_1) (ix3 t b n) = Bm P b t n
  cm : ∀ (t : Fin 2048) (b : Fin 2) (n : Fin 16), V (Proc.devRef .tc main_v54_2) (ix3 t b n) = Cm P b t n
  uc : ∀ (t : Fin 2048) (b : Fin 2) (d : Fin 1536), V (Proc.devRef .tc main_v54_3) (ix3 t b d) = Mamba.uc P b t d
  neg : ∀ (d : Fin 1536) (n : Fin 16), V (Proc.devRef .tc main_v54_4) (ix2 d n) = -Ideal.exp (P.alog d n)
  state : ∀ (b : Fin 2) (d : Fin 1536) (n : Fin 16), V (Proc.devRef .tc main_v54_6) (ix3 b d n) = hS P b k d n
  out : ∀ (t : Fin 2048) (b : Fin 2) (d : Fin 1536), (t : ℕ) < k → V (Proc.devRef .tc main_v54_7) (ix3 t b d) = yS P b t d

variable {P V}

/-- The state after a trip is the recurrence's. -/
theorem At.step_state {k : ℕ} (hk : k < 2048) (h : At P V k) (b : Fin 2) (d : Fin 1536) (n : Fin 16) :
    res_main_while0b_v82 V (ix3 b d n) = hS P b (k + 1) d n := by
  rw [v82_eq, stepF_at, rowD_at V ⟨k, hk⟩ h.ctr, rowD_at V ⟨k, hk⟩ h.ctr, rowN_at V ⟨k, hk⟩ h.ctr, h.dt, h.bm, h.uc, h.neg, h.state,
    mul_right_comm]
  rfl

/-- The output after a trip: its row is the step's result, the others are kept. -/
theorem At.step_out {k : ℕ} (hk : k < 2048) (h : At P V k) (t : Fin 2048) (b : Fin 2) (d : Fin 1536) (ht : (t : ℕ) < k + 1) :
    afterL bodyI V (Proc.devRef .tc main_v54_7) (ix3 t b d) = yS P b t d := by
  rw [trip7_eq]
  refine (setRow_at (n := 2048) (p := 2) (w := 1536) _ _ (start V) _ ⟨k, hk⟩ (start_zero V ⟨k, hk⟩ h.ctr) rfl rfl t b d).trans ?_
  by_cases e : t = ⟨k, hk⟩
  · rw [if_pos e]
    subst e
    refine (outRow_at _ _ b d).trans (Finset.sum_congr (M := EReal) rfl fun n _ => ?_)
    rw [h.step_state hk, rowN_at V ⟨k, hk⟩ h.ctr, h.cm]
  · rw [if_neg e]
    exact h.out t b d (by have : (t : ℕ) ≠ k := fun e' => e (Fin.ext e'); omega)

/-- One trip carries the loop's hypothesis on, the counter's word given. -/
theorem At.step {k : ℕ} (hk : k < 2048) (h : At P V k)
    (hc : afterL bodyI V (Proc.devRef .tc main_v54_5) = fun _ => Scf.iv 0#32 1#32 (k + 1)) : At P (afterL bodyI V) (k + 1) where
  ctr := hc
  dt t b d := by rw [trip_main_v54_0]; exact h.dt t b d
  bm t b n := by rw [trip_main_v54_1]; exact h.bm t b n
  cm t b n := by rw [trip_main_v54_2]; exact h.cm t b n
  uc t b d := by rw [trip_main_v54_3]; exact h.uc t b d
  neg d n := by rw [trip_main_v54_4]; exact h.neg d n
  state b d n := by rw [trip_main_v54_6]; exact h.step_state hk b d n
  out t b d ht := h.step_out hk t b d ht

end Cert.ReferenceIdeal.Trip
-- ==== Proof.R.Loop.lean ====
/- The reference's whole run: the loop's entry, its 2048 trips and what follows it, read at an index. -/
module

public import proofs.«01_k».proof.Proof.R.Trip

@[expose] public section

set_option maxRecDepth 16384

noncomputable section

namespace Cert.ReferenceIdeal.Whole

open Idealize.ShloMosaic Idealize.ShloMosaic.TcCoe Idealize.ShloMosaic.Tactic Idealize.ShloMosaic.StableHlo
open Cert.ReferenceIdeal Cert.ReferenceIdeal.Gen Cert.ReferenceIdeal.Value Cert.Mamba

variable (P : Par) (V : Valuation τ sig (Elt Ideal))

/-- What the loop starts from, at every index. -/
theorem entry_at (V : Valuation τ sig (Elt Ideal))
    (h0 : ∀ (b : Fin 2) (t : Fin 2048) (k : Fin 768), V (Proc.devRef .tc main_arg0) (ix3 b t k) = P.X b t k)
    (h1 : ∀ (e : Fin 3072) (k : Fin 768), V (Proc.devRef .tc main_arg1) (ix2 e k) = P.Win e k)
    (h2 : ∀ (d : Fin 1536) (k : Fin 4), V (Proc.devRef .tc main_arg2) (ix2 d k) = P.cw d k)
    (h3 : ∀ (d : Fin 1536), V (Proc.devRef .tc main_arg3) (ix1 d) = P.cb d)
    (h4 : ∀ (e : Fin 80) (d : Fin 1536), V (Proc.devRef .tc main_arg4) (ix2 e d) = P.Wx e d)
    (h5 : ∀ (d : Fin 1536) (r : Fin 48), V (Proc.devRef .tc main_arg5) (ix2 d r) = P.Wdt d r)
    (h6 : ∀ (d : Fin 1536), V (Proc.devRef .tc main_arg6) (ix1 d) = P.bdt d)
    (h7 : ∀ (d : Fin 1536) (n : Fin 16), V (Proc.devRef .tc main_arg7) (ix2 d n) = P.alog d n) :
    ((∀ (t : Fin 2048) (b : Fin 2) (d : Fin 1536), afterL preI V (Proc.devRef .tc main_v54_0) (ix3 t b d) = dt P b t d)
      ∧ (∀ (t : Fin 2048) (b : Fin 2) (n : Fin 16), afterL preI V (Proc.devRef .tc main_v54_1) (ix3 t b n) = Bm P b t n)
      ∧ (∀ (t : Fin 2048) (b : Fin 2) (n : Fin 16), afterL preI V (Proc.devRef .tc main_v54_2) (ix3 t b n) = Cm P b t n)
      ∧ (∀ (t : Fin 2048) (b : Fin 2) (d : Fin 1536), afterL preI V (Proc.devRef .tc main_v54_3) (ix3 t b d) = uc P b t d)
      ∧ (∀ (d : Fin 1536) (n : Fin 16), afterL preI V (Proc.devRef .tc main_v54_4) (ix2 d n) = -Ideal.exp (P.alog d n))
      ∧ (∀ (b : Fin 2) (d : Fin 1536) (n : Fin 16), afterL preI V (Proc.devRef .tc main_v54_6) (ix3 b d n) = (0 : EReal)))
    ∧ (∀ (b : Fin 2) (t : Fin 2048) (d : Fin 1536), afterL preI V (Proc.devRef .tc main_v36) (ix3 b t d) = uc P b t d)
    ∧ (∀ (b : Fin 2) (t : Fin 2048) (d : Fin 1536), afterL preI V (Proc.devRef .tc main_v2) (ix3 b t d) = zR P b t d) := by
  simp only [afterL_cons, afterL_nil]
  -- what each stretch leaves alone
  have k0 := fun (r : Ref sig .tc) (h : r ∉ hostOps0_W) => after_of_writes_sub hostOps0 V hostOps0_writes h
  have a1 := Stages.v1_at P V h0 h1
  have a2 := Stages.v2_at P V h0 h1
  have ac := Stages.c_at V
  have g2 := fun d k => (congrFun (k0 main_arg2 (by decide +kernel)) (ix2 d k)).trans (h2 d k)
  have g3 := fun d => (congrFun (k0 main_arg3 (by decide +kernel)) (ix1 d)).trans (h3 d)
  have g4 := fun e d => (congrFun (k0 main_arg4 (by decide +kernel)) (ix2 e d)).trans (h4 e d)
  have g5 := fun d r => (congrFun (k0 main_arg5 (by decide +kernel)) (ix2 d r)).trans (h5 d r)
  have g6 := fun d => (congrFun (k0 main_arg6 (by decide +kernel)) (ix1 d)).trans (h6 d)
  have g7 := fun d n => (congrFun (k0 main_arg7 (by decide +kernel)) (ix2 d n)).trans (h7 d n)
  clear k0 h0 h1 h2 h3 h4 h5 h6 h7
  generalize after hostOps0 V = V1 at *
  have k1 := fun (r : Ref sig .tc) (h : r ∉ hostOps0_1_W) => after_of_writes_sub hostOps0_1 V1 hostOps0_1_writes h
  have b3 := Stages.v3_at P V1 ac a1
  have b2 := fun b t d => (congrFun (k1 main_v2 (by decide +kernel)) (ix3 b t d)).trans (a2 b t d)
  have f2 := fun d k => (congrFun (k1 main_arg2 (by decide +kernel)) (ix2 d k)).trans (g2 d k)
  have f3 := fun d => (congrFun (k1 main_arg3 (by decide +kernel)) (ix1 d)).trans (g3 d)
  have f4 := fun e d => (congrFun (k1 main_arg4 (by decide +kernel)) (ix2 e d)).trans (g4 e d)
  have f5 := fun d r => (congrFun (k1 main_arg5 (by decide +kernel)) (ix2 d r)).trans (g5 d r)
  have f6 := fun d => (congrFun (k1 main_arg6 (by decide +kernel)) (ix1 d)).trans (g6 d)
  have f7 := fun d n => (congrFun (k1 main_arg7 (by decide +kernel)) (ix2 d n)).trans (g7 d n)
  clear k1 a1 a2 ac g2 g3 g4 g5 g6 g7
  generalize after hostOps0_1 V1 = V2 at *
  have k2 := fun (r : Ref sig .tc) (h : r ∉ hostOps0_2_W) => after_of_writes_sub hostOps0_2 V2 hostOps0_2_writes h
  have c35 := Stages.v35_at P V2 b3 f2 f3
  have c2 := fun b t d => (congrFun (k2 main_v2 (by decide +kernel)) (ix3 b t d)).trans (b2 b t d)
  have e4 := fun e d => (congrFun (k2 main_arg4 (by decide +kernel)) (ix2 e d)).trans (f4 e d)
  have e5 := fun d r => (congrFun (k2 main_arg5 (by decide +kernel)) (ix2 d r)).trans (f5 d r)
  have e6 := fun d => (congrFun (k2 main_arg6 (by decide +kernel)) (ix1 d)).trans (f6 d)
  have e7 := fun d n => (congrFun (k2 main_arg7 (by decide +kernel)) (ix2 d n)).trans (f7 d n)
  clear k2 b3 b2 f2 f3 f4 f5 f6 f7
  generalize after hostOps0_2 V2 = V3 at *
  have k3 := fun (r : Ref sig .tc) (h : r ∉ hostOps0_3_W) => after_of_writes_sub hostOps0_3 V3 hostOps0_3_writes h
  have d36 : ∀ (b : Fin 2) (t : Fin 2048) (d : Fin 1536), after hostOps0_3 V3 (Proc.devRef .tc main_v36) (ix3 b t d) = uc P b t d :=
    Stages.v36_at V3 (fun b t d => cv P b t d + P.cb d) c35
  have d2 := fun b t d => (congrFun (k3 main_v2 (by decide +kernel)) (ix3 b t d)).trans (c2 b t d)
  have i4 := fun e d => (congrFun (k3 main_arg4 (by decide +kernel)) (ix2 e d)).trans (e4 e d)
  have i5 := fun d r => (congrFun (k3 main_arg5 (by decide +kernel)) (ix2 d r)).trans (e5 d r)
  have i6 := fun d => (congrFun (k3 main_arg6 (by decide +kernel)) (ix1 d)).trans (e6 d)
  have i7 := fun d n => (congrFun (k3 main_arg7 (by decide +kernel)) (ix2 d n)).trans (e7 d n)
  clear k3 c35 c2 e4 e5 e6 e7
  generalize after hostOps0_3 V3 = V4 at *
  have k4 := fun (r : Ref sig .tc) (h : r ∉ hostOps0_4_W) => after_of_writes_sub hostOps0_4 V4 hostOps0_4_writes h
  have e44 := Stages.v44_at P V4 d36 i4 i5 i6
  have e39 := Stages.v39_at P V4 d36 i4
  have e40 := Stages.v40_at P V4 d36 i4
  have e36 := fun b t d => (congrFun (k4 main_v36 (by decide +kernel)) (ix3 b t d)).trans (d36 b t d)
  have e2 := fun b t d => (congrFun (k4 main_v2 (by decide +kernel)) (ix3 b t d)).trans (d2 b t d)
  have j7 := fun d n => (congrFun (k4 main_arg7 (by decide +kernel)) (ix2 d n)).trans (i7 d n)
  clear k4 d36 d2 i4 i5 i6 i7
  generalize after hostOps0_4 V4 = V5 at *
  have k5 := fun (r : Ref sig .tc) (h : r ∉ hostOps0_5_W) => after_of_writes_sub hostOps0_5 V5 hostOps0_5_writes h
  have f45 : ∀ (b : Fin 2) (t : Fin 2048) (d : Fin 1536), after hostOps0_5 V5 (Proc.devRef .tc main_v45) (ix3 b t d) = dt P b t d :=
    Stages.v45_at V5 (fun b t d => ∑ r : Fin 48, xp P b t ⟨r, by omega⟩ * P.Wdt d r + P.bdt d) e44
  have f39 := fun b t n => (congrFun (k5 main_v39 (by decide +kernel)) (ix3 b t n)).trans (e39 b t n)
  have f40 := fun b t n => (congrFun (k5 main_v40 (by decide +kernel)) (ix3 b t n)).trans (e40 b t n)
  have f36 := fun b t d => (congrFun (k5 main_v36 (by decide +kernel)) (ix3 b t d)).trans (e36 b t d)
  have f2 := fun b t d => (congrFun (k5 main_v2 (by decide +kernel)) (ix3 b t d)).trans (e2 b t d)
  have l7 := fun d n => (congrFun (k5 main_arg7 (by decide +kernel)) (ix2 d n)).trans (j7 d n)
  clear k5 e44 e39 e40 e36 e2 j7
  generalize after hostOps0_5 V5 = V6 at *
  have k6 := fun (r : Ref sig .tc) (h : r ∉ hostOps0_6_W) => after_of_writes_sub hostOps0_6 V6 hostOps0_6_writes h
  exact ⟨⟨fun t b d => (Stages.v54_0_at V6 t b d).trans (f45 b t d), fun t b n => (Stages.v54_1_at V6 t b n).trans (f39 b t n),
    fun t b n => (Stages.v54_2_at V6 t b n).trans (f40 b t n), fun t b d => (Stages.v54_3_at V6 t b d).trans (f36 b t d),
    Stages.v54_4_at P V6 l7, Stages.v54_6_at V6⟩,
    fun b t d => (congrFun (k6 main_v36 (by decide +kernel)) (ix3 b t d)).trans (f36 b t d),
    fun b t d => (congrFun (k6 main_v2 (by decide +kernel)) (ix3 b t d)).trans (f2 b t d)⟩

/-! ## The trips -/

/-- The references the loop writes. -/
def loopW : List (Ref sig .tc) := condOps_W ++ while0Ops0_W ++ while0Ops0_1_W ++ while0Ops0_2_W ++ while0Ops0_3_W
  ++ while0Ops0_4_W ++ while0Ops0_5_W ++ while0Ops0_6_W

/-- A trip leaves what the loop does not write. -/
theorem trip_keep (r : Ref sig .tc) (h : r ∉ loopW) :
    afterL bodyI (after condOps V) (Proc.devRef .tc r) = V (Proc.devRef .tc r) := by
  simp only [loopW, List.mem_append, not_or] at h
  obtain ⟨⟨⟨⟨⟨⟨⟨h0, h1⟩, h2⟩, h3⟩, h4⟩, h5⟩, h6⟩, h7⟩ := h
  simp only [afterL_cons, afterL_nil]
  rw [after_of_writes_sub while0Ops0_6 _ while0Ops0_6_writes h7, after_of_writes_sub while0Ops0_5 _ while0Ops0_5_writes h6,
    after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

variable (m : (ℓ : Loc nD τ sig) → Buf (Elt Ideal) ℓ) (c : Dev nD)

/-- The loop leaves what it does not write. -/
theorem atK_keep (r : Ref sig .tc) (h : r ∉ loopW) : ∀ k, atK m k c (Proc.devRef .tc r) = entryContents preI m c (Proc.devRef .tc r)
  | 0 => rfl
  | k + 1 => (trip_keep (atK m k c) r h).trans (atK_keep r h k)

variable {P V} in
/-- The condition's operations change nothing the loop carries. -/
theorem at_cond {k : ℕ} (h : Trip.At P V k) : Trip.At P (after condOps V) k := by
  have kc := fun (r : Ref sig .tc) (h : r ∉ condOps_W) => after_of_writes_sub condOps V condOps_writes h
  exact
  { ctr := (kc main_v54_5 (by decide +kernel)).trans h.ctr
    dt := fun t b d => (congrFun (kc main_v54_0 (by decide +kernel)) _).trans (h.dt t b d)
    bm := fun t b n => (congrFun (kc main_v54_1 (by decide +kernel)) _).trans (h.bm t b n)
    cm := fun t b n => (congrFun (kc main_v54_2 (by decide +kernel)) _).trans (h.cm t b n)
    uc := fun t b d => (congrFun (kc main_v54_3 (by decide +kernel)) _).trans (h.uc t b d)
    neg := fun d n => (congrFun (kc main_v54_4 (by decide +kernel)) _).trans (h.neg d n)
    state := fun b d n => (congrFun (kc main_v54_6 (by decide +kernel)) _).trans (h.state b d n)
    out := fun t b d ht => (congrFun (kc main_v54_7 (by decide +kernel)) _).trans (h.out t b d ht) }

variable {P} in
/-- The loop's hypothesis, carried from its entry through `k` trips. -/
theorem at_k (h0 : Trip.At P (entryContents preI m c) 0) : ∀ k ≤ 2048, Trip.At P (atK m k c) k
  | 0, _ => h0
  | k + 1, hk => (at_cond (at_k h0 k (by omega))).step (by omega) (atK_ctr m c (k + 1))

/-! ## After the loop -/

/-- What stretch 7 writes, after the loop. -/
abbrev hostOps0_7_W : List (Ref sig .tc) := [main_v55, main_v56, main_v57, main_v58, main_v59]
theorem hostOps0_7_writes : (hostOps0_7 : List (HloOp τ sig (Elt Ideal))).Forall fun op => op.writes ⊆ (hostOps0_7_W.map (Proc.devRef (τ := τ) .tc)).toFinset :=
  StableHlo.forall_writes_sub_of_map rfl

/-- What stretch 8 writes, after the loop. -/
abbrev hostOps0_8_W : List (Ref sig .tc) := [main_call8_v0, main_call8_v1, main_call8_cst, main_call8_v2, main_call8_v3, main_call8_cst_0, main_call8_v4, main_call8_v5, main_v60]
theorem hostOps0_8_writes : (hostOps0_8 : List (HloOp τ sig (Elt Ideal))).Forall fun op => op.writes ⊆ (hostOps0_8_W.map (Proc.devRef (τ := τ) .tc)).toFinset :=
  StableHlo.forall_writes_sub_of_map rfl

/-- What stretch 9 writes, after the loop. -/
abbrev hostOps0_9_W : List (Ref sig .tc) := [main_v61, main_v62]
theorem hostOps0_9_writes : (hostOps0_9 : List (HloOp τ sig (Elt Ideal))).Forall fun op => op.writes ⊆ (hostOps0_9_W.map (Proc.devRef (τ := τ) .tc)).toFinset :=
  StableHlo.forall_writes_sub_of_map rfl

theorem v59_at (hy : ∀ (t : Fin 2048) (b : Fin 2) (d : Fin 1536), V (Proc.devRef .tc main_v54_7) (ix3 t b d) = yS P b t d)
    (hu : ∀ (b : Fin 2) (t : Fin 2048) (d : Fin 1536), V (Proc.devRef .tc main_v36) (ix3 b t d) = uc P b t d)
    (hD : ∀ (d : Fin 1536), V (Proc.devRef .tc main_arg8) (ix1 d) = P.D d) (b : Fin 2) (t : Fin 2048) (d : Fin 1536) :
    after hostOps0_7 V (Proc.devRef .tc main_v59) (ix3 b t d) = yS P b t d + uc P b t d * P.D d := by
  after_reads_at
  simp only [hy, hu, hD]

theorem v60_at (hz : ∀ (b : Fin 2) (t : Fin 2048) (d : Fin 1536), V (Proc.devRef .tc main_v2) (ix3 b t d) = zR P b t d)
    (b : Fin 2) (t : Fin 2048) (d : Fin 1536) : after hostOps0_8 V (Proc.devRef .tc main_v60) (ix3 b t d) = silu (zR P b t d) := by
  after_reads_at
  simp only [hz]
  rfl

theorem v62_at (h59 : ∀ (b : Fin 2) (t : Fin 2048) (d : Fin 1536), V (Proc.devRef .tc main_v59) (ix3 b t d) = yS P b t d + uc P b t d * P.D d)
    (h60 : ∀ (b : Fin 2) (t : Fin 2048) (d : Fin 1536), V (Proc.devRef .tc main_v60) (ix3 b t d) = silu (zR P b t d))
    (hW : ∀ (j : Fin 768) (d : Fin 1536), V (Proc.devRef .tc main_arg9) (ix2 j d) = P.Wout j d)
    (b : Fin 2) (t : Fin 2048) (j : Fin 768) : after hostOps0_9 V (Proc.devRef .tc main_v62) (ix3 b t j) = outS P b t j := by
  after_reads_at
  simp only [h59, h60, hW]
  rfl

/-- What follows the loop, from the loop's last contents. -/
theorem post_at (hy : ∀ (t : Fin 2048) (b : Fin 2) (d : Fin 1536), V (Proc.devRef .tc main_v54_7) (ix3 t b d) = yS P b t d)
    (hu : ∀ (b : Fin 2) (t : Fin 2048) (d : Fin 1536), V (Proc.devRef .tc main_v36) (ix3 b t d) = uc P b t d)
    (hz : ∀ (b : Fin 2) (t : Fin 2048) (d : Fin 1536), V (Proc.devRef .tc main_v2) (ix3 b t d) = zR P b t d)
    (hD : ∀ (d : Fin 1536), V (Proc.devRef .tc main_arg8) (ix1 d) = P.D d)
    (hW : ∀ (j : Fin 768) (d : Fin 1536), V (Proc.devRef .tc main_arg9) (ix2 j d) = P.Wout j d)
    (b : Fin 2) (t : Fin 2048) (j : Fin 768) : afterL postI V (Proc.devRef .tc main_v62) (ix3 b t j) = outS P b t j := by
  simp only [afterL_cons, afterL_nil]
  have k7 := fun (r : Ref sig .tc) (h : r ∉ hostOps0_7_W) => after_of_writes_sub hostOps0_7 V hostOps0_7_writes h
  have a59 := v59_at P V hy hu hD
  have az := fun b t d => (congrFun (k7 main_v2 (by decide +kernel)) (ix3 b t d)).trans (hz b t d)
  have aW := fun j d => (congrFun (k7 main_arg9 (by decide +kernel)) (ix2 j d)).trans (hW j d)
  clear k7 hy hu hz hD hW
  generalize after hostOps0_7 V = V1 at *
  have k8 := fun (r : Ref sig .tc) (h : r ∉ hostOps0_8_W) => after_of_writes_sub hostOps0_8 V1 hostOps0_8_writes h
  exact v62_at P _ (fun b t d => (congrFun (k8 main_v59 (by decide +kernel)) (ix3 b t d)).trans (a59 b t d))
    (v60_at P V1 az) (fun j d => (congrFun (k8 main_arg9 (by decide +kernel)) (ix2 j d)).trans (aW j d)) b t j

/-! ## The whole run -/

/-- The references the run writes. -/
def runW : List (Ref sig .tc) := loopW ++ hostOps0_W ++ hostOps0_1_W ++ hostOps0_2_W ++ hostOps0_3_W ++ hostOps0_4_W
  ++ hostOps0_5_W ++ hostOps0_6_W ++ hostOps0_7_W ++ hostOps0_8_W ++ hostOps0_9_W

theorem pre_keep (r : Ref sig .tc) (h : r ∉ runW) : afterL preI V (Proc.devRef .tc r) = V (Proc.devRef .tc r) := by
  simp only [runW, List.mem_append, not_or] at h
  obtain ⟨⟨⟨⟨⟨⟨⟨⟨⟨⟨-, h0⟩, h1⟩, h2⟩, h3⟩, h4⟩, h5⟩, h6⟩, -⟩, -⟩, -⟩ := h
  simp only [afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

theorem post_keep (r : Ref sig .tc) (h : r ∉ runW) : afterL postI V (Proc.devRef .tc r) = V (Proc.devRef .tc r) := by
  simp only [runW, List.mem_append, not_or] at h
  obtain ⟨⟨⟨-, h7⟩, h8⟩, h9⟩ := h
  simp only [afterL_cons, afterL_nil]
  rw [after_of_writes_sub hostOps0_9 _ hostOps0_9_writes h9, after_of_writes_sub hostOps0_8 _ hostOps0_8_writes h8,
    after_of_writes_sub hostOps0_7 _ hostOps0_7_writes h7]

/-- The loop's last contents, the failing condition's operations included. -/
def last : Valuation τ sig (Elt Ideal) := after condOps (atK m 2048 c)

theorem final_eq : finalContents condOps preI bodyI postI 2048 m c = afterL postI (last m c) := rfl

theorem last_keep (r : Ref sig .tc) (h : r ∉ loopW) : last m c (Proc.devRef .tc r) = afterL preI (launchContents m c) (Proc.devRef .tc r) := by
  refine (after_of_writes_sub condOps _ condOps_writes ?_).trans (atK_keep m c r h 2048)
  simp only [loopW, List.mem_append, not_or] at h
  exact h.1.1.1.1.1.1.1

theorem loop_of_run {r : Ref sig .tc} (h : r ∉ runW) : r ∉ loopW := by
  simp only [runW, List.mem_append, not_or] at h
  exact h.1.1.1.1.1.1.1.1.1.1

/-- The run leaves what it does not write as launched. -/
theorem final_keep (r : Ref sig .tc) (h : r ∉ runW) :
    finalContents condOps preI bodyI postI 2048 m c (Proc.devRef .tc r) = m ((c.tc : Thread nD τ).loc r) := by
  rw [final_eq, post_keep _ r h, last_keep m c r (loop_of_run h), pre_keep _ r h]

/-- The parameters as the run finds them on a core. -/
def parAt : Par :=
  parOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The reference's result, at every index. -/
theorem final_at (b : Fin 2) (t : Fin 2048) (j : Fin 768) :
    finalContents condOps preI bodyI postI 2048 m c (Proc.devRef .tc main_v62) (ix3 b t j) = outS (parAt m c) b t j := by
  rw [final_eq]
  obtain ⟨⟨e0, e1, e2, e3, e4, e6⟩, e36, ez⟩ := entry_at (parAt m c) (launchContents m c)
    (fun b t k => (show (parAt m c).X b t k = m ((c : Thread nD τ).loc main_arg0) (ix3 b t k) from dif_pos t.isLt).symm) (fun _ _ => rfl) (fun _ _ => rfl) (fun _ => rfl) (fun _ _ => rfl) (fun _ _ => rfl)
    (fun _ => rfl) (fun _ _ => rfl)
  have hl := at_cond (at_k m c (P := parAt m c)
    ⟨(ctr_entry m c).trans (funext fun _ => (Scf.iv_zero _ _).symm), e0, e1, e2, e3, e4, e6, fun t _ _ ht => absurd ht (Nat.not_lt_zero _)⟩ 2048 le_rfl)
  refine post_at (parAt m c) (last m c) (fun t b d => hl.out t b d t.isLt) ?_ ?_ ?_ ?_ b t j
  · exact fun b t d => (congrFun (last_keep m c main_v36 (by decide +kernel)) _).trans (e36 b t d)
  · exact fun b t d => (congrFun (last_keep m c main_v2 (by decide +kernel)) _).trans (ez b t d)
  · intro d
    have k : last m c (Proc.devRef .tc main_arg8) = launchContents m c (Proc.devRef .tc main_arg8) :=
      (last_keep m c main_arg8 (by decide +kernel)).trans (pre_keep _ main_arg8 (by decide +kernel))
    exact congrFun k _
  · intro j d
    have k : last m c (Proc.devRef .tc main_arg9) = launchContents m c (Proc.devRef .tc main_arg9) :=
      (last_keep m c main_arg9 (by decide +kernel)).trans (pre_keep _ main_arg9 (by decide +kernel))
    exact congrFun k _

end Cert.ReferenceIdeal.Whole
-- ==== Proof.Claims.lean ====
/- The five claims, from the kernel's value and the reference's. -/
module

public import proofs.«01_k».proof.Defs
public import proofs.«01_k».proof.Proof.Gen.Kernel.Frame
public import proofs.«01_k».proof.Proof.Gen.KernelIdeal.Value
public import proofs.«01_k».proof.Proof.K.Fold
public import proofs.«01_k».proof.Proof.R.Loop

@[expose] public section

noncomputable section

namespace Cert.Proof

open Idealize.ShloMosaic Idealize.ShloMosaic.StableHlo Idealize.SL.Sem Cert.Mamba

/-- The kernel's frame, at any float values. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

open Cert.ReferenceIdeal Cert.ReferenceIdeal.Gen Cert.ReferenceIdeal.Value in
/-- The reference's run: its result is the fold's last contents, its arguments end as launched. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62) = finalContents condOps preI bodyI postI 2048 m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run (defs (F := Ideal)) _ _).mono (fun r h c => ?_) (run_fold (F := Ideal) m ρ)
  have keep := fun (b : Ref sig .tc) (hs : (Proc.devRef .tc b : DevRef τ sig).isScoped = false) (hb : b ∉ Whole.runW) =>
    (h c b hs).trans (Whole.final_keep m c b hb)
  exact ⟨h c main_v62 rfl, keep main_arg0 rfl (by decide +kernel), keep main_arg1 rfl (by decide +kernel),
    keep main_arg2 rfl (by decide +kernel), keep main_arg3 rfl (by decide +kernel), keep main_arg4 rfl (by decide +kernel),
    keep main_arg5 rfl (by decide +kernel), keep main_arg6 rfl (by decide +kernel), keep main_arg7 rfl (by decide +kernel),
    keep main_arg8 rfl (by decide +kernel), keep main_arg9 rfl (by decide +kernel)⟩

/-- The reference's frame. -/
theorem frame_ri : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (reference_run m ρ)

/-- The three named logarithms are the values that the certificate's table gives them. -/
theorem preserves : Cert.preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩

/-- From arguments that agree, the two programs end with one array: the block's output at every index. -/
theorem algebraic : Cert.algebraic_KernelIdeal_ReferenceIdeal := by
  intro m ρ m' ρ' _ hagree
  refine ⟨_, Cert.KernelIdeal.Value.run (F := Ideal) m ρ, ?_⟩
  refine (θ_run (Cert.ReferenceIdeal.defs (F := Ideal)) _ _).mono (fun _ h c => ⟨(h c).1.trans ?_, (h c).2⟩) (reference_run m' ρ')
  obtain ⟨e0, e1, e2, e3, e4, e5, e6, e7, e8, e9⟩ := hagree c
  have hpar : Cert.ReferenceIdeal.Whole.parAt m' c = Cert.KernelIdeal.Chunk.parAt m c := by
    unfold Cert.ReferenceIdeal.Whole.parAt
    rw [e0, e1, e2, e3, e4, e5, e6, e7, e8, e9]
    rfl
  funext i
  have hi : i = ix3 (i 0) (i 1) (i 2) := (ix3_eta (n0 := 2) (n1 := 2048) (n2 := 768) i).symm
  rw [hi]
  refine (Cert.ReferenceIdeal.Whole.final_at m' c (i 0) (i 1) (i 2)).trans ?_
  rw [hpar]
  exact (Cert.KernelIdeal.Chunk.G10_apply m c (i 0) (i 1) (i 2)).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨frame_p, frame_pi, frame_ri, preserves, algebraic⟩⟩

end Cert.Proof

end
